-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_3)) (v3 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v1_3) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S200x1x5120 : Shape := ⟨3, ![200, 1, 5120]⟩
abbrev S640x32000 : Shape := ⟨2, ![640, 32000]⟩
abbrev S40x32000 : Shape := ⟨2, ![40, 32000]⟩
abbrev S200x5120 : Shape := ⟨2, ![200, 5120]⟩
abbrev S200x1x32000 : Shape := ⟨3, ![200, 1, 32000]⟩
abbrev S1x200 : Shape := ⟨2, ![1, 200]⟩
abbrev S640x1280 : Shape := ⟨2, ![640, 1280]⟩
abbrev S40x1280 : Shape := ⟨2, ![40, 1280]⟩
abbrev S200x1x1280 : Shape := ⟨3, ![200, 1, 1280]⟩
abbrev S200x128 : Shape := ⟨2, ![200, 128]⟩
abbrev S640x256 : Shape := ⟨2, ![640, 256]⟩
abbrev S640x8x256 : Shape := ⟨3, ![640, 8, 256]⟩
abbrev S640x1x256 : Shape := ⟨3, ![640, 1, 256]⟩
abbrev S5120x256 : Shape := ⟨2, ![5120, 256]⟩
abbrev S40x128x256 : Shape := ⟨3, ![40, 128, 256]⟩
abbrev S40x256 : Shape := ⟨2, ![40, 256]⟩
abbrev S40x1x256 : Shape := ⟨3, ![40, 1, 256]⟩
abbrev S200x256 : Shape := ⟨2, ![200, 256]⟩
abbrev S200x1x256 : Shape := ⟨3, ![200, 1, 256]⟩
abbrev S128x200 : Shape := ⟨2, ![128, 200]⟩
abbrev S200 : Shape := ⟨1, ![200]⟩

abbrev nBuf : Space → Nat
  | .hbm => 8
  | .vmem => 13
  | .smem => 0
  | _ => 0

abbrev bufTy : (tb : Table) → Fin (tcTables nBuf tb) → BufTy
  | .hbm, ⟨0, _⟩ => ⟨S200x1x5120, .bf16⟩
  | .hbm, ⟨1, _⟩ => ⟨S640x32000, .i32⟩
  | .hbm, ⟨2, _⟩ => ⟨S40x32000, .bf16⟩
  | .hbm, ⟨3, _⟩ => ⟨S200x5120, .bf16⟩
  | .hbm, ⟨4, _⟩ => ⟨S200x1x32000, .f32⟩
  | .hbm, ⟨5, _⟩ => ⟨S1x200, .i32⟩
  | .hbm, ⟨6, _⟩ => ⟨S1x200, .f32⟩
  | .hbm, ⟨7, _⟩ => ⟨S1x200, .f32⟩
  | .local _ .vmem, ⟨0, _⟩ => ⟨S200x5120, .bf16⟩
  | .local _ .vmem, ⟨1, _⟩ => ⟨S640x1280, .i32⟩
  | .local _ .vmem, ⟨2, _⟩ => ⟨S640x1280, .i32⟩
  | .local _ .vmem, ⟨3, _⟩ => ⟨S40x1280, .bf16⟩
  | .local _ .vmem, ⟨4, _⟩ => ⟨S40x1280, .bf16⟩
  | .local _ .vmem, ⟨5, _⟩ => ⟨S200x1x1280, .f32⟩
  | .local _ .vmem, ⟨6, _⟩ => ⟨S200x1x1280, .f32⟩
  | .local _ .vmem, ⟨7, _⟩ => ⟨S1x200, .i32⟩
  | .local _ .vmem, ⟨8, _⟩ => ⟨S1x200, .f32⟩
  | .local _ .vmem, ⟨9, _⟩ => ⟨S1x200, .f32⟩
  | .local _ .vmem, ⟨10, _⟩ => ⟨S200x128, .f32⟩
  | .local _ .vmem, ⟨11, _⟩ => ⟨S200x128, .f32⟩
  | .local _ .vmem, ⟨12, _⟩ => ⟨S200x128, .i32⟩
  | _, _ => ⟨S200x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v299 : BitVec 1 := Scalar.cmpi .eq arg0 c24_i32
  let v300 : BitVec 32 := Scalar.extui v299
  let c0_i32_137 : BitVec 32 := 0#32
  let v301 : BitVec 1 := Scalar.cmpi .ne v300 c0_i32_137
  v301

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S200x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x200 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S200x1x5120 : Shape := ⟨3, ![200, 1, 5120]⟩
abbrev S640x32000 : Shape := ⟨2, ![640, 32000]⟩
abbrev S40x32000 : Shape := ⟨2, ![40, 32000]⟩
abbrev S40x1x32000 : Shape := ⟨3, ![40, 1, 32000]⟩
abbrev S200x1x640x8 : Shape := ⟨4, ![200, 1, 640, 8]⟩
abbrev S_ : Shape := ⟨0, ![]⟩
abbrev S40x16x32000 : Shape := ⟨3, ![40, 16, 32000]⟩
abbrev S200x1x640x1 : Shape := ⟨4, ![200, 1, 640, 1]⟩
abbrev S200x1x640 : Shape := ⟨3, ![200, 1, 640]⟩
abbrev S200x1x40x16 : Shape := ⟨4, ![200, 1, 40, 16]⟩
abbrev S200x1x32000 : Shape := ⟨3, ![200, 1, 32000]⟩
abbrev S200x1 : Shape := ⟨2, ![200, 1]⟩
abbrev S200x1x2 : Shape := ⟨3, ![200, 1, 2]⟩
abbrev S200x1x1 : Shape := ⟨3, ![200, 1, 1]⟩
abbrev S1x200 : Shape := ⟨2, ![1, 200]⟩

abbrev nBuf : Space → Nat
  | .hbm => 165
  | .vmem => 0
  | .smem => 0
  | _ => 0

abbrev hbmTy0_0 (i : Nat) : BufTy := match i % 128 with
  | 0 => ⟨S200x1x5120, .bf16⟩
  | 1 => ⟨S640x32000, .i32⟩
  | 2 => ⟨S40x32000, .bf16⟩
  | 3 => ⟨S40x1x32000, .bf16⟩
  | 4 => ⟨S200x1x640x8, .bf16⟩
  | 5 => ⟨S_, .i32⟩
  | 6 => ⟨S640x32000, .i32⟩
  | 7 => ⟨S640x32000, .i32⟩
  | 8 => ⟨S_, .i32⟩
  | 9 => ⟨S640x32000, .i32⟩
  | 10 => ⟨S640x32000, .i32⟩
  | 11 => ⟨S640x32000, .bf16⟩
  | 12 => ⟨S_, .bf16⟩
  | 13 => ⟨S640x32000, .bf16⟩
  | 14 => ⟨S640x32000, .bf16⟩
  | 15 => ⟨S40x16x32000, .bf16⟩
  | 16 => ⟨S40x16x32000, .bf16⟩
  | 17 => ⟨S40x16x32000, .bf16⟩
  | 18 => ⟨S200x1x640x1, .bf16⟩
  | 19 => ⟨S200x1x640, .bf16⟩
  | 20 => ⟨S200x1x40x16, .bf16⟩
  | 21 => ⟨S200x1x32000, .f32⟩
  | 22 => ⟨S_, .i32⟩
  | 23 => ⟨S640x32000, .i32⟩
  | 24 => ⟨S640x32000, .i32⟩
  | 25 => ⟨S_, .i32⟩
  | 26 => ⟨S640x32000, .i32⟩
  | 27 => ⟨S640x32000, .i32⟩
  | 28 => ⟨S640x32000, .bf16⟩
  | 29 => ⟨S_, .bf16⟩
  | 30 => ⟨S640x32000, .bf16⟩
  | 31 => ⟨S640x32000, .bf16⟩
  | 32 => ⟨S40x16x32000, .bf16⟩
  | 33 => ⟨S40x16x32000, .bf16⟩
  | 34 => ⟨S40x16x32000, .bf16⟩
  | 35 => ⟨S200x1x640x1, .bf16⟩
  | 36 => ⟨S200x1x640, .bf16⟩
  | 37 => ⟨S200x1x40x16, .bf16⟩
  | 38 => ⟨S200x1x32000, .f32⟩
  | 39 => ⟨S200x1x32000, .f32⟩
  | 40 => ⟨S_, .i32⟩
  | 41 => ⟨S640x32000, .i32⟩
  | 42 => ⟨S640x32000, .i32⟩
  | 43 => ⟨S_, .i32⟩
  | 44 => ⟨S640x32000, .i32⟩
  | 45 => ⟨S640x32000, .i32⟩
  | 46 => ⟨S640x32000, .bf16⟩
  | 47 => ⟨S_, .bf16⟩
  | 48 => ⟨S640x32000, .bf16⟩
  | 49 => ⟨S640x32000, .bf16⟩
  | 50 => ⟨S40x16x32000, .bf16⟩
  | 51 => ⟨S40x16x32000, .bf16⟩
  | 52 => ⟨S40x16x32000, .bf16⟩
  | 53 => ⟨S200x1x640x1, .bf16⟩
  | 54 => ⟨S200x1x640, .bf16⟩
  | 55 => ⟨S200x1x40x16, .bf16⟩
  | 56 => ⟨S200x1x32000, .f32⟩
  | 57 => ⟨S200x1x32000, .f32⟩
  | 58 => ⟨S_, .i32⟩
  | 59 => ⟨S640x32000, .i32⟩
  | 60 => ⟨S640x32000, .i32⟩
  | 61 => ⟨S_, .i32⟩
  | 62 => ⟨S640x32000, .i32⟩
  | 63 => ⟨S640x32000, .i32⟩
  | 64 => ⟨S640x32000, .bf16⟩
  | 65 => ⟨S_, .bf16⟩
  | 66 => ⟨S640x32000, .bf16⟩
  | 67 => ⟨S640x32000, .bf16⟩
  | 68 => ⟨S40x16x32000, .bf16⟩
  | 69 => ⟨S40x16x32000, .bf16⟩
  | 70 => ⟨S40x16x32000, .bf16⟩
  | 71 => ⟨S200x1x640x1, .bf16⟩
  | 72 => ⟨S200x1x640, .bf16⟩
  | 73 => ⟨S200x1x40x16, .bf16⟩
  | 74 => ⟨S200x1x32000, .f32⟩
  | 75 => ⟨S200x1x32000, .f32⟩
  | 76 => ⟨S_, .i32⟩
  | 77 => ⟨S640x32000, .i32⟩
  | 78 => ⟨S640x32000, .i32⟩
  | 79 => ⟨S_, .i32⟩
  | 80 => ⟨S640x32000, .i32⟩
  | 81 => ⟨S640x32000, .i32⟩
  | 82 => ⟨S640x32000, .bf16⟩
  | 83 => ⟨S_, .bf16⟩
  | 84 => ⟨S640x32000, .bf16⟩
  | 85 => ⟨S640x32000, .bf16⟩
  | 86 => ⟨S40x16x32000, .bf16⟩
  | 87 => ⟨S40x16x32000, .bf16⟩
  | 88 => ⟨S40x16x32000, .bf16⟩
  | 89 => ⟨S200x1x640x1, .bf16⟩
  | 90 => ⟨S200x1x640, .bf16⟩
  | 91 => ⟨S200x1x40x16, .bf16⟩
  | 92 => ⟨S200x1x32000, .f32⟩
  | 93 => ⟨S200x1x32000, .f32⟩
  | 94 => ⟨S_, .i32⟩
  | 95 => ⟨S640x32000, .i32⟩
  | 96 => ⟨S640x32000, .i32⟩
  | 97 => ⟨S_, .i32⟩
  | 98 => ⟨S640x32000, .i32⟩
  | 99 => ⟨S640x32000, .i32⟩
  | 100 => ⟨S640x32000, .bf16⟩
  | 101 => ⟨S_, .bf16⟩
  | 102 => ⟨S640x32000, .bf16⟩
  | 103 => ⟨S640x32000, .bf16⟩
  | 104 => ⟨S40x16x32000, .bf16⟩
  | 105 => ⟨S40x16x32000, .bf16⟩
  | 106 => ⟨S40x16x32000, .bf16⟩
  | 107 => ⟨S200x1x640x1, .bf16⟩
  | 108 => ⟨S200x1x640, .bf16⟩
  | 109 => ⟨S200x1x40x16, .bf16⟩
  | 110 => ⟨S200x1x32000, .f32⟩
  | 111 => ⟨S200x1x32000, .f32⟩
  | 112 => ⟨S_, .i32⟩
  | 113 => ⟨S640x32000, .i32⟩
  | 114 => ⟨S640x32000, .i32⟩
  | 115 => ⟨S_, .i32⟩
  | 116 => ⟨S640x32000, .i32⟩
  | 117 => ⟨S640x32000, .i32⟩
  | 118 => ⟨S640x32000, .bf16⟩
  | 119 => ⟨S_, .bf16⟩
  | 120 => ⟨S640x32000, .bf16⟩
  | 121 => ⟨S640x32000, .bf16⟩
  | 122 => ⟨S40x16x32000, .bf16⟩
  | 123 => ⟨S40x16x32000, .bf16⟩
  | 124 => ⟨S40x16x32000, .bf16⟩
  | 125 => ⟨S200x1x640x1, .bf16⟩
  | 126 => ⟨S200x1x640, .bf16⟩
  | 127 => ⟨S200x1x40x16, .bf16⟩
  | _ => ⟨S200x1x5120, .bf16⟩

abbrev hbmTy0_1 (i : Nat) : BufTy := match i % 128 with
  | 0 => ⟨S200x1x32000, .f32⟩
  | 1 => ⟨S200x1x32000, .f32⟩
  | 2 => ⟨S_, .i32⟩
  | 3 => ⟨S640x32000, .i32⟩
  | 4 => ⟨S640x32000, .i32⟩
  | 5 => ⟨S_, .i32⟩
  | 6 => ⟨S640x32000, .i32⟩
  | 7 => ⟨S640x32000, .i32⟩
  | 8 => ⟨S640x32000, .bf16⟩
  | 9 => ⟨S_, .bf16⟩
  | 10 => ⟨S640x32000, .bf16⟩
  | 11 => ⟨S640x32000, .bf16⟩
  | 12 => ⟨S40x16x32000, .bf16⟩
  | 13 => ⟨S40x16x32000, .bf16⟩
  | 14 => ⟨S40x16x32000, .bf16⟩
  | 15 => ⟨S200x1x640x1, .bf16⟩
  | 16 => ⟨S200x1x640, .bf16⟩
  | 17 => ⟨S200x1x40x16, .bf16⟩
  | 18 => ⟨S200x1x32000, .f32⟩
  | 19 => ⟨S200x1x32000, .f32⟩
  | 20 => ⟨S200x1x32000, .i32⟩
  | 21 => ⟨S_, .f32⟩
  | 22 => ⟨S_, .i32⟩
  | 23 => ⟨S200x1, .f32⟩
  | 24 => ⟨S200x1, .i32⟩
  | 25 => ⟨S200x1x2, .f32⟩
  | 26 => ⟨S200x1x2, .i32⟩
  | 27 => ⟨S200x1x1, .f32⟩
  | 28 => ⟨S200x1, .f32⟩
  | 29 => ⟨S200x1x1, .f32⟩
  | 30 => ⟨S200x1, .f32⟩
  | 31 => ⟨S200x1x1, .f32⟩
  | 32 => ⟨S200x1, .f32⟩
  | 33 => ⟨S200x1, .f32⟩
  | 34 => ⟨S1x200, .i32⟩
  | 35 => ⟨S1x200, .f32⟩
  | 36 => ⟨S1x200, .f32⟩
  | _ => ⟨S200x1x5120, .bf16⟩

abbrev hbmTy (i : Nat) : BufTy := match i / 128 with
  | 0 => hbmTy0_0 i
  | 1 => hbmTy0_1 i
  | _ => ⟨S200x1x5120, .bf16⟩

abbrev bufTy : (tb : Table) → Fin (tcTables nBuf tb) → BufTy
  | .hbm, ⟨i, _⟩ => hbmTy i
  | _, _ => ⟨S200x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_7 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_10 : Ref sig .tc := ⟨.hbm, 76, rfl⟩
abbrev main_v61 : Ref sig .tc := ⟨.hbm, 77, rfl⟩
abbrev main_v62 : Ref sig .tc := ⟨.hbm, 78, rfl⟩
abbrev main_c_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c_13 : Ref sig .tc := ⟨.hbm, 94, rfl⟩
abbrev main_v76 : Ref sig .tc := ⟨.hbm, 95, rfl⟩
abbrev main_v77 : Ref sig .tc := ⟨.hbm, 96, rfl⟩
abbrev main_c_14 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_15 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_16 : Ref sig .tc := ⟨.hbm, 112, rfl⟩
abbrev main_v91 : Ref sig .tc := ⟨.hbm, 113, rfl⟩
abbrev main_v92 : Ref sig .tc := ⟨.hbm, 114, rfl⟩
abbrev main_c_17 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_18 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_c_19 : Ref sig .tc := ⟨.hbm, 130, rfl⟩
abbrev main_v106 : Ref sig .tc := ⟨.hbm, 131, rfl⟩
abbrev main_v107 : Ref sig .tc := ⟨.hbm, 132, rfl⟩
abbrev main_c_20 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_21 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_call0_v0 : Ref sig .tc := ⟨.hbm, 148, rfl⟩
abbrev main_call0_cst : Ref sig .tc := ⟨.hbm, 149, rfl⟩
abbrev main_call0_c : Ref sig .tc := ⟨.hbm, 150, rfl⟩
abbrev main_call0_v1_0 : Ref sig .tc := ⟨.hbm, 151, rfl⟩
abbrev main_v121 : Ref sig .tc := ⟨.hbm, 152, rfl⟩
abbrev main_values : Ref sig .tc := ⟨.hbm, 153, rfl⟩
abbrev main_indices : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩

abbrev nD : Nat := 1
abbrev τ : Topo := Topo.v7x

variable {F : FTy → Type} [FloatOps F]
-- ==== Proof.Cases.lean ====
/-
  What one grid point leaves, read off the body's own stores, for any float values.

  The body walks the five 256-column tiles of its block. Each tile's product (`tile`, the printed payload of the first
  tile; the other four are spelt with other names and are the same term) is stored into its columns of the logits block,
  and its two 128-lane halves go one after the other through `upd`, the running greatest, second greatest and index word
  of each lane. `pointUpd` is the ten updates of one point. The three cases of a point (first, middle, last) differ in the
  state they start from (the first point starts from `start`) and in the three results the last one stores.
-/
module

public import proofs.«01_k».proof.Proof.Gen.KernelIdeal.Value
public import Idealize.ShloMosaic.Lib.Pipeline.ValueKit.Acc
public import Idealize.ShloMosaic.Lib.Pipeline.ValueKit.Tiles
public import Idealize.ShloMosaic.Lib.Tactic

@[expose] public section

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- The carried state: each lane's greatest entry, second greatest entry, and index word. -/
abbrev St (F : FTy → Type) := Vec F S200x128 .f32 × Vec F S200x128 .f32 × Vec F S200x128 .i32

/-- One 128-lane slice of entries taken into the state; the entry of lane `l` is at position `base + l`. -/
def upd (base : BitVec 32) (v : FVec F S200x128 .f32) (st : St F) : St F :=
  (maximumf st.1 v, maximumf st.2.1 (minimumf st.1 v),
    select (cmpf .ogt v st.1) (addi (broadcast S200x128 base) (iota .tc S200x128 32 [1] iota_S200x128_d1_w32)) st.2.2)

/-- A tile's two halves taken into the state, lower half first. -/
def tileUpd (arg0 off : BitVec 32) (y : FVec F S200x256 .f32) (st : St F) : St F :=
  upd (Scalar.addi (Scalar.addi (Scalar.muli arg0 1280#32) off) 128#32) (extractStridedSlice S200x128 ![0, 128] y slices_S200x256_o0_128_S200x128)
    (upd (Scalar.addi (Scalar.addi (Scalar.muli arg0 1280#32) off) 0#32) (extractStridedSlice S200x128 ![0, 0] y slices_S200x256_o0_0_S200x128) st)

/-- The product of tile 0 of a point's block (columns 0 to 255). -/
abbrev tile0 (x0 : Vec F S200x5120 .bf16) (x1 : Vec F S640x1280 .i32) (x2 : Vec F S40x1280 .bf16) : FVec F S200x256 .f32 :=
  k0_pay9 (View.ld x1 (Rect.unit ![0, 0] ![640, 256] inb_S640x1280_S640x256_0_0)) (View.ld x2 (Rect.unit ![0, 0] ![40, 256] inb_S40x1280_S40x256_0_0)) x0
/-- The product of tile 1 of a point's block (columns 256 to 511). -/
abbrev tile1 (x0 : Vec F S200x5120 .bf16) (x1 : Vec F S640x1280 .i32) (x2 : Vec F S40x1280 .bf16) : FVec F S200x256 .f32 :=
  k0_pay9 (View.ld x1 (Rect.unit ![0, 256] ![640, 256] inb_S640x1280_S640x256_0_256)) (View.ld x2 (Rect.unit ![0, 256] ![40, 256] inb_S40x1280_S40x256_0_256)) x0
/-- The product of tile 2 of a point's block (columns 512 to 767). -/
abbrev tile2 (x0 : Vec F S200x5120 .bf16) (x1 : Vec F S640x1280 .i32) (x2 : Vec F S40x1280 .bf16) : FVec F S200x256 .f32 :=
  k0_pay9 (View.ld x1 (Rect.unit ![0, 512] ![640, 256] inb_S640x1280_S640x256_0_512)) (View.ld x2 (Rect.unit ![0, 512] ![40, 256] inb_S40x1280_S40x256_0_512)) x0
/-- The product of tile 3 of a point's block (columns 768 to 1023). -/
abbrev tile3 (x0 : Vec F S200x5120 .bf16) (x1 : Vec F S640x1280 .i32) (x2 : Vec F S40x1280 .bf16) : FVec F S200x256 .f32 :=
  k0_pay9 (View.ld x1 (Rect.unit ![0, 768] ![640, 256] inb_S640x1280_S640x256_0_768)) (View.ld x2 (Rect.unit ![0, 768] ![40, 256] inb_S40x1280_S40x256_0_768)) x0
/-- The product of tile 4 of a point's block (columns 1024 to 1279). -/
abbrev tile4 (x0 : Vec F S200x5120 .bf16) (x1 : Vec F S640x1280 .i32) (x2 : Vec F S40x1280 .bf16) : FVec F S200x256 .f32 :=
  k0_pay9 (View.ld x1 (Rect.unit ![0, 1024] ![640, 256] inb_S640x1280_S640x256_0_1024)) (View.ld x2 (Rect.unit ![0, 1024] ![40, 256] inb_S40x1280_S40x256_0_1024)) x0

/-- The ten updates of one point. -/
def pointUpd (arg0 : BitVec 32) (x0 : Vec F S200x5120 .bf16) (x1 : Vec F S640x1280 .i32) (x2 : Vec F S40x1280 .bf16) (st : St F) : St F :=
  tileUpd arg0 1024#32 (tile4 x0 x1 x2) (tileUpd arg0 768#32 (tile3 x0 x1 x2) (tileUpd arg0 512#32 (tile2 x0 x1 x2)
    (tileUpd arg0 256#32 (tile1 x0 x1 x2) (tileUpd arg0 0#32 (tile0 x0 x1 x2) st))))

/-- The state the first point starts from. -/
def start : St F := (k0_pay6, k0_pay7, k0_pay8)

/-- The five spellings of a tile's product are one term. -/
theorem pay20_eq (w : Vec F S640x256 .i32) (s : Vec F S40x256 .bf16) (x : Vec F S200x5120 .bf16) : k0_pay20 (k0_pay19 w) s x = k0_pay9 w s x := rfl
theorem pay31_eq (w : Vec F S640x256 .i32) (s : Vec F S40x256 .bf16) (x : Vec F S200x5120 .bf16) : k0_pay31 w s x = k0_pay9 w s x := rfl
theorem pay41_eq (w : Vec F S640x256 .i32) (s : Vec F S40x256 .bf16) (x : Vec F S200x5120 .bf16) : k0_pay41 k0_pay39 (k0_pay40 w) s x = k0_pay9 w s x := rfl
theorem pay54_eq (w : Vec F S640x256 .i32) (s : Vec F S40x256 .bf16) (x : Vec F S200x5120 .bf16) : k0_pay54 w s x = k0_pay9 w s x := rfl

section CaseA

variable (c : Dev nD) (i : grid0.Coords) (a1 : Memref sig .tc .vmem S200x5120 .bf16) (h1 : a1.IsWhole) (a2 : Memref sig .tc .vmem S640x1280 .i32) (h2 : a2.IsWhole)
  (a3 : Memref sig .tc .vmem S40x1280 .bf16) (h3 : a3.IsWhole) (a4 : Memref sig .tc .vmem S200x1x1280 .f32) (h4 : a4.IsWhole) (a5 : Memref sig .tc .vmem S1x200 .i32) (h5 : a5.IsWhole)
  (a6 : Memref sig .tc .vmem S1x200 .f32) (h6 : a6.IsWhole) (a7 : Memref sig .tc .vmem S1x200 .f32) (h7 : a7.IsWhole) (a8 : Memref sig .tc .vmem S200x128 .f32) (h8 : a8.IsWhole)
  (a9 : Memref sig .tc .vmem S200x128 .f32) (h9 : a9.IsWhole) (a10 : Memref sig .tc .vmem S200x128 .i32) (h10 : a10.IsWhole) (hc0 : cond0_0 i) (hc1 : ¬cond0_1 i)
  (x0 : Vec F S200x5120 .bf16) (x1 : Vec F S640x1280 .i32) (x2 : Vec F S40x1280 .bf16)

theorem sout_A_0 : sout0_A_0 c i a1 h1 a2 h2 a3 h3 a4 h4 a5 h5 a6 h6 a7 h7 a8 h8 a9 h9 a10 h10 hc0 hc1 x0 x1 x2 = (pointUpd (BitVec.ofNat 32 (i 0)) x0 x1 x2 start).1 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2)]
  unfold kernelRun0_A
  dsimp only
  sl_unfold_words
  rw [View.canon_cons_unit_zero (S := S200x128) hz]
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  simp only [k0_pay11, k0_pay12, k0_pay13, k0_pay14, k0_pay15, k0_pay16, k0_pay17, k0_pay18, k0_pay22, k0_pay23, k0_pay24, k0_pay25, k0_pay26, k0_pay27, k0_pay28, k0_pay29, k0_pay30, k0_pay33, k0_pay34, k0_pay35, k0_pay36, k0_pay37, k0_pay38, k0_pay43, k0_pay44, k0_pay45, k0_pay46, k0_pay47, k0_pay48, k0_pay49, k0_pay50, k0_pay51, k0_pay52, k0_pay53, k0_pay56, k0_pay57, k0_pay58, k0_pay59, k0_pay60, k0_pay61, shapeCast_self, pay20_eq, pay31_eq, pay41_eq, pay54_eq]
  rfl

theorem sout_A_1 : sout0_A_1 c i a1 h1 a2 h2 a3 h3 a4 h4 a5 h5 a6 h6 a7 h7 a8 h8 a9 h9 a10 h10 hc0 hc1 x0 x1 x2 = (pointUpd (BitVec.ofNat 32 (i 0)) x0 x1 x2 start).2.1 := by
  unfold sout0_A_1
  rw [View.read_writes_eq_canon _ _ _ (scover0_A_1 c i a1 h1 a2 h2 a3 h3 a4 h4 a5 h5 a6 h6 a7 h7 a8 h8 a9 h9 a10 h10 hc0 hc1 x0 x1 x2)]
  unfold kernelRun0_A
  dsimp only
  sl_unfold_words
  rw [View.canon_cons_unit_zero (S := S200x128) hz]
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  simp only [k0_pay11, k0_pay12, k0_pay13, k0_pay14, k0_pay15, k0_pay16, k0_pay17, k0_pay18, k0_pay22, k0_pay23, k0_pay24, k0_pay25, k0_pay26, k0_pay27, k0_pay28, k0_pay29, k0_pay30, k0_pay33, k0_pay34, k0_pay35, k0_pay36, k0_pay37, k0_pay38, k0_pay43, k0_pay44, k0_pay45, k0_pay46, k0_pay47, k0_pay48, k0_pay49, k0_pay50, k0_pay51, k0_pay52, k0_pay53, k0_pay56, k0_pay57, k0_pay58, k0_pay59, k0_pay60, k0_pay61, shapeCast_self, pay20_eq, pay31_eq, pay41_eq, pay54_eq]
  rfl

theorem sout_A_2 : sout0_A_2 c i a1 h1 a2 h2 a3 h3 a4 h4 a5 h5 a6 h6 a7 h7 a8 h8 a9 h9 a10 h10 hc0 hc1 x0 x1 x2 = (pointUpd (BitVec.ofNat 32 (i 0)) x0 x1 x2 start).2.2 := by
  unfold sout0_A_2
  rw [View.read_writes_eq_canon _ _ _ (scover0_A_2 c i a1 h1 a2 h2 a3 h3 a4 h4 a5 h5 a6 h6 a7 h7 a8 h8 a9 h9 a10 h10 hc0 hc1 x0 x1 x2)]
  unfold kernelRun0_A
  dsimp only
  sl_unfold_words
  rw [View.canon_cons_unit_zero (S := S200x128) hz]
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  simp only [k0_pay11, k0_pay12, k0_pay13, k0_pay14, k0_pay15, k0_pay16, k0_pay17, k0_pay18, k0_pay22, k0_pay23, k0_pay24, k0_pay25, k0_pay26, k0_pay27, k0_pay28, k0_pay29, k0_pay30, k0_pay33, k0_pay34, k0_pay35, k0_pay36, k0_pay37, k0_pay38, k0_pay43, k0_pay44, k0_pay45, k0_pay46, k0_pay47, k0_pay48, k0_pay49, k0_pay50, k0_pay51, k0_pay52, k0_pay53, k0_pay56, k0_pay57, k0_pay58, k0_pay59, k0_pay60, k0_pay61, shapeCast_self, pay20_eq, pay31_eq, pay41_eq, pay54_eq]
  rfl

theorem out_A_3 : out0_A_3 c i a1 h1 a2 h2 a3 h3 a4 h4 a5 h5 a6 h6 a7 h7 a8 h8 a9 h9 a10 h10 hc0 hc1 x0 x1 x2 = View.canon (Val := Elt F) (s := S200x1x1280) (e := .f32) [⟨Rect.unit ![0, 0, 1024] ![200, 1, 256] inb_S200x1x1280_S200x1x256_0_0_1024, shapeCast S200x1x256 (tile4 x0 x1 x2) shapeCasts_S200x256_S200x1x256⟩, ⟨Rect.unit ![0, 0, 768] ![200, 1, 256] inb_S200x1x1280_S200x1x256_0_0_768, shapeCast S200x1x256 (tile3 x0 x1 x2) shapeCasts_S200x256_S200x1x256⟩, ⟨Rect.unit ![0, 0, 512] ![200, 1, 256] inb_S200x1x1280_S200x1x256_0_0_512, shapeCast S200x1x256 (tile2 x0 x1 x2) shapeCasts_S200x256_S200x1x256⟩, ⟨Rect.unit ![0, 0, 256] ![200, 1, 256] inb_S200x1x1280_S200x1x256_0_0_256, shapeCast S200x1x256 (tile1 x0 x1 x2) shapeCasts_S200x256_S200x1x256⟩, ⟨Rect.unit ![0, 0, 0] ![200, 1, 256] inb_S200x1x1280_S200x1x256_0_0_0, shapeCast S200x1x256 (tile0 x0 x1 x2) shapeCasts_S200x256_S200x1x256⟩] := by
  unfold out0_A_3
  rw [View.read_writes_eq_canon _ _ _ (cover0_A_3 c i a1 h1 a2 h2 a3 h3 a4 h4 a5 h5 a6 h6 a7 h7 a8 h8 a9 h9 a10 h10 hc0 hc1 x0 x1 x2)]
  unfold kernelRun0_A
  dsimp only
  sl_unfold_words
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  rfl

end CaseA

section CaseB

variable (c : Dev nD) (i : grid0.Coords) (a1 : Memref sig .tc .vmem S200x5120 .bf16) (h1 : a1.IsWhole) (a2 : Memref sig .tc .vmem S640x1280 .i32) (h2 : a2.IsWhole)
  (a3 : Memref sig .tc .vmem S40x1280 .bf16) (h3 : a3.IsWhole) (a4 : Memref sig .tc .vmem S200x1x1280 .f32) (h4 : a4.IsWhole) (a5 : Memref sig .tc .vmem S1x200 .i32) (h5 : a5.IsWhole)
  (a6 : Memref sig .tc .vmem S1x200 .f32) (h6 : a6.IsWhole) (a7 : Memref sig .tc .vmem S1x200 .f32) (h7 : a7.IsWhole) (a8 : Memref sig .tc .vmem S200x128 .f32) (h8 : a8.IsWhole)
  (a9 : Memref sig .tc .vmem S200x128 .f32) (h9 : a9.IsWhole) (a10 : Memref sig .tc .vmem S200x128 .i32) (h10 : a10.IsWhole) (hc0 : ¬cond0_0 i) (hc1 : ¬cond0_1 i)
  (x0 : Vec F S200x5120 .bf16) (x1 : Vec F S640x1280 .i32) (x2 : Vec F S40x1280 .bf16) (st : St F)

theorem sout_B_0 : sout0_B_0 c i a1 h1 a2 h2 a3 h3 a4 h4 a5 h5 a6 h6 a7 h7 a8 h8 a9 h9 a10 h10 hc0 hc1 x0 x1 x2 st.1 st.2.1 st.2.2 = (pointUpd (BitVec.ofNat 32 (i 0)) x0 x1 x2 st).1 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 st.1 st.2.1 st.2.2)]
  unfold kernelRun0_B
  dsimp only
  sl_unfold_words
  rw [View.canon_cons_unit_zero (S := S200x128) hz]
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  simp only [k0_pay11, k0_pay12, k0_pay13, k0_pay14, k0_pay15, k0_pay16, k0_pay17, k0_pay18, k0_pay22, k0_pay23, k0_pay24, k0_pay25, k0_pay26, k0_pay27, k0_pay28, k0_pay29, k0_pay30, k0_pay33, k0_pay34, k0_pay35, k0_pay36, k0_pay37, k0_pay38, k0_pay43, k0_pay44, k0_pay45, k0_pay46, k0_pay47, k0_pay48, k0_pay49, k0_pay50, k0_pay51, k0_pay52, k0_pay53, k0_pay56, k0_pay57, k0_pay58, k0_pay59, k0_pay60, k0_pay61, shapeCast_self, pay20_eq, pay31_eq, pay41_eq, pay54_eq]
  rfl

theorem sout_B_1 : sout0_B_1 c i a1 h1 a2 h2 a3 h3 a4 h4 a5 h5 a6 h6 a7 h7 a8 h8 a9 h9 a10 h10 hc0 hc1 x0 x1 x2 st.1 st.2.1 st.2.2 = (pointUpd (BitVec.ofNat 32 (i 0)) x0 x1 x2 st).2.1 := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 st.1 st.2.1 st.2.2)]
  unfold kernelRun0_B
  dsimp only
  sl_unfold_words
  rw [View.canon_cons_unit_zero (S := S200x128) hz]
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  simp only [k0_pay11, k0_pay12, k0_pay13, k0_pay14, k0_pay15, k0_pay16, k0_pay17, k0_pay18, k0_pay22, k0_pay23, k0_pay24, k0_pay25, k0_pay26, k0_pay27, k0_pay28, k0_pay29, k0_pay30, k0_pay33, k0_pay34, k0_pay35, k0_pay36, k0_pay37, k0_pay38, k0_pay43, k0_pay44, k0_pay45, k0_pay46, k0_pay47, k0_pay48, k0_pay49, k0_pay50, k0_pay51, k0_pay52, k0_pay53, k0_pay56, k0_pay57, k0_pay58, k0_pay59, k0_pay60, k0_pay61, shapeCast_self, pay20_eq, pay31_eq, pay41_eq, pay54_eq]
  rfl

theorem sout_B_2 : sout0_B_2 c i a1 h1 a2 h2 a3 h3 a4 h4 a5 h5 a6 h6 a7 h7 a8 h8 a9 h9 a10 h10 hc0 hc1 x0 x1 x2 st.1 st.2.1 st.2.2 = (pointUpd (BitVec.ofNat 32 (i 0)) x0 x1 x2 st).2.2 := by
  unfold sout0_B_2
  rw [View.read_writes_eq_canon _ _ _ (scover0_B_2 c i a1 h1 a2 h2 a3 h3 a4 h4 a5 h5 a6 h6 a7 h7 a8 h8 a9 h9 a10 h10 hc0 hc1 x0 x1 x2 st.1 st.2.1 st.2.2)]
  unfold kernelRun0_B
  dsimp only
  sl_unfold_words
  rw [View.canon_cons_unit_zero (S := S200x128) hz]
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  simp only [k0_pay11, k0_pay12, k0_pay13, k0_pay14, k0_pay15, k0_pay16, k0_pay17, k0_pay18, k0_pay22, k0_pay23, k0_pay24, k0_pay25, k0_pay26, k0_pay27, k0_pay28, k0_pay29, k0_pay30, k0_pay33, k0_pay34, k0_pay35, k0_pay36, k0_pay37, k0_pay38, k0_pay43, k0_pay44, k0_pay45, k0_pay46, k0_pay47, k0_pay48, k0_pay49, k0_pay50, k0_pay51, k0_pay52, k0_pay53, k0_pay56, k0_pay57, k0_pay58, k0_pay59, k0_pay60, k0_pay61, shapeCast_self, pay20_eq, pay31_eq, pay41_eq, pay54_eq]
  rfl

theorem out_B_3 : out0_B_3 c i a1 h1 a2 h2 a3 h3 a4 h4 a5 h5 a6 h6 a7 h7 a8 h8 a9 h9 a10 h10 hc0 hc1 x0 x1 x2 st.1 st.2.1 st.2.2 = View.canon (Val := Elt F) (s := S200x1x1280) (e := .f32) [⟨Rect.unit ![0, 0, 1024] ![200, 1, 256] inb_S200x1x1280_S200x1x256_0_0_1024, shapeCast S200x1x256 (tile4 x0 x1 x2) shapeCasts_S200x256_S200x1x256⟩, ⟨Rect.unit ![0, 0, 768] ![200, 1, 256] inb_S200x1x1280_S200x1x256_0_0_768, shapeCast S200x1x256 (tile3 x0 x1 x2) shapeCasts_S200x256_S200x1x256⟩, ⟨Rect.unit ![0, 0, 512] ![200, 1, 256] inb_S200x1x1280_S200x1x256_0_0_512, shapeCast S200x1x256 (tile2 x0 x1 x2) shapeCasts_S200x256_S200x1x256⟩, ⟨Rect.unit ![0, 0, 256] ![200, 1, 256] inb_S200x1x1280_S200x1x256_0_0_256, shapeCast S200x1x256 (tile1 x0 x1 x2) shapeCasts_S200x256_S200x1x256⟩, ⟨Rect.unit ![0, 0, 0] ![200, 1, 256] inb_S200x1x1280_S200x1x256_0_0_0, shapeCast S200x1x256 (tile0 x0 x1 x2) shapeCasts_S200x256_S200x1x256⟩] := by
  unfold out0_B_3
  rw [View.read_writes_eq_canon _ _ _ (cover0_B_3 c i a1 h1 a2 h2 a3 h3 a4 h4 a5 h5 a6 h6 a7 h7 a8 h8 a9 h9 a10 h10 hc0 hc1 x0 x1 x2 st.1 st.2.1 st.2.2)]
  unfold kernelRun0_B
  dsimp only
  sl_unfold_words
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  rfl

end CaseB

section CaseC

variable (c : Dev nD) (i : grid0.Coords) (a1 : Memref sig .tc .vmem S200x5120 .bf16) (h1 : a1.IsWhole) (a2 : Memref sig .tc .vmem S640x1280 .i32) (h2 : a2.IsWhole)
  (a3 : Memref sig .tc .vmem S40x1280 .bf16) (h3 : a3.IsWhole) (a4 : Memref sig .tc .vmem S200x1x1280 .f32) (h4 : a4.IsWhole) (a5 : Memref sig .tc .vmem S1x200 .i32) (h5 : a5.IsWhole)
  (a6 : Memref sig .tc .vmem S1x200 .f32) (h6 : a6.IsWhole) (a7 : Memref sig .tc .vmem S1x200 .f32) (h7 : a7.IsWhole) (a8 : Memref sig .tc .vmem S200x128 .f32) (h8 : a8.IsWhole)
  (a9 : Memref sig .tc .vmem S200x128 .f32) (h9 : a9.IsWhole) (a10 : Memref sig .tc .vmem S200x128 .i32) (h10 : a10.IsWhole) (hc0 : ¬cond0_0 i) (hc1 : cond0_1 i)
  (x0 : Vec F S200x5120 .bf16) (x1 : Vec F S640x1280 .i32) (x2 : Vec F S40x1280 .bf16) (st : St F)

theorem out_C_4 : out0_C_4 c i a1 h1 a2 h2 a3 h3 a4 h4 a5 h5 a6 h6 a7 h7 a8 h8 a9 h9 a10 h10 hc0 hc1 x0 x1 x2 st.1 st.2.1 st.2.2 = k0_pay4 (pointUpd (BitVec.ofNat 32 (i 0)) x0 x1 x2 st).1 (pointUpd (BitVec.ofNat 32 (i 0)) x0 x1 x2 st).2.2 := by
  unfold out0_C_4
  rw [View.read_writes_eq_canon _ _ _ (cover0_C_4 c i a1 h1 a2 h2 a3 h3 a4 h4 a5 h5 a6 h6 a7 h7 a8 h8 a9 h9 a10 h10 hc0 hc1 x0 x1 x2 st.1 st.2.1 st.2.2)]
  unfold kernelRun0_C
  dsimp only
  sl_unfold_words
  rw [View.canon_cons_unit_zero (S := S1x200) hz]
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  simp only [k0_pay11, k0_pay12, k0_pay13, k0_pay14, k0_pay15, k0_pay16, k0_pay17, k0_pay18, k0_pay22, k0_pay23, k0_pay24, k0_pay25, k0_pay26, k0_pay27, k0_pay28, k0_pay29, k0_pay30, k0_pay33, k0_pay34, k0_pay35, k0_pay36, k0_pay37, k0_pay38, k0_pay43, k0_pay44, k0_pay45, k0_pay46, k0_pay47, k0_pay48, k0_pay49, k0_pay50, k0_pay51, k0_pay52, k0_pay53, k0_pay56, k0_pay57, k0_pay58, k0_pay59, k0_pay60, k0_pay61, shapeCast_self, pay20_eq, pay31_eq, pay41_eq, pay54_eq]
  rfl

theorem out_C_5 : out0_C_5 c i a1 h1 a2 h2 a3 h3 a4 h4 a5 h5 a6 h6 a7 h7 a8 h8 a9 h9 a10 h10 hc0 hc1 x0 x1 x2 st.1 st.2.1 st.2.2 = k0_pay5 (pointUpd (BitVec.ofNat 32 (i 0)) x0 x1 x2 st).1 (pointUpd (BitVec.ofNat 32 (i 0)) x0 x1 x2 st).2.1 (pointUpd (BitVec.ofNat 32 (i 0)) x0 x1 x2 st).2.2 := by
  unfold out0_C_5
  rw [View.read_writes_eq_canon _ _ _ (cover0_C_5 c i a1 h1 a2 h2 a3 h3 a4 h4 a5 h5 a6 h6 a7 h7 a8 h8 a9 h9 a10 h10 hc0 hc1 x0 x1 x2 st.1 st.2.1 st.2.2)]
  unfold kernelRun0_C
  dsimp only
  sl_unfold_words
  rw [View.canon_cons_unit_zero (S := S1x200) hz]
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  simp only [k0_pay11, k0_pay12, k0_pay13, k0_pay14, k0_pay15, k0_pay16, k0_pay17, k0_pay18, k0_pay22, k0_pay23, k0_pay24, k0_pay25, k0_pay26, k0_pay27, k0_pay28, k0_pay29, k0_pay30, k0_pay33, k0_pay34, k0_pay35, k0_pay36, k0_pay37, k0_pay38, k0_pay43, k0_pay44, k0_pay45, k0_pay46, k0_pay47, k0_pay48, k0_pay49, k0_pay50, k0_pay51, k0_pay52, k0_pay53, k0_pay56, k0_pay57, k0_pay58, k0_pay59, k0_pay60, k0_pay61, shapeCast_self, pay20_eq, pay31_eq, pay41_eq, pay54_eq]
  rfl

theorem out_C_6 : out0_C_6 c i a1 h1 a2 h2 a3 h3 a4 h4 a5 h5 a6 h6 a7 h7 a8 h8 a9 h9 a10 h10 hc0 hc1 x0 x1 x2 st.1 st.2.1 st.2.2 = k0_pay3 (pointUpd (BitVec.ofNat 32 (i 0)) x0 x1 x2 st).1 := by
  unfold out0_C_6
  rw [View.read_writes_eq_canon _ _ _ (cover0_C_6 c i a1 h1 a2 h2 a3 h3 a4 h4 a5 h5 a6 h6 a7 h7 a8 h8 a9 h9 a10 h10 hc0 hc1 x0 x1 x2 st.1 st.2.1 st.2.2)]
  unfold kernelRun0_C
  dsimp only
  sl_unfold_words
  rw [View.canon_cons_unit_zero (S := S1x200) hz]
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  simp only [k0_pay11, k0_pay12, k0_pay13, k0_pay14, k0_pay15, k0_pay16, k0_pay17, k0_pay18, k0_pay22, k0_pay23, k0_pay24, k0_pay25, k0_pay26, k0_pay27, k0_pay28, k0_pay29, k0_pay30, k0_pay33, k0_pay34, k0_pay35, k0_pay36, k0_pay37, k0_pay38, k0_pay43, k0_pay44, k0_pay45, k0_pay46, k0_pay47, k0_pay48, k0_pay49, k0_pay50, k0_pay51, k0_pay52, k0_pay53, k0_pay56, k0_pay57, k0_pay58, k0_pay59, k0_pay60, k0_pay61, shapeCast_self, pay20_eq, pay31_eq, pay41_eq, pay54_eq]
  rfl

theorem out_C_3 : out0_C_3 c i a1 h1 a2 h2 a3 h3 a4 h4 a5 h5 a6 h6 a7 h7 a8 h8 a9 h9 a10 h10 hc0 hc1 x0 x1 x2 st.1 st.2.1 st.2.2 = View.canon (Val := Elt F) (s := S200x1x1280) (e := .f32) [⟨Rect.unit ![0, 0, 1024] ![200, 1, 256] inb_S200x1x1280_S200x1x256_0_0_1024, shapeCast S200x1x256 (tile4 x0 x1 x2) shapeCasts_S200x256_S200x1x256⟩, ⟨Rect.unit ![0, 0, 768] ![200, 1, 256] inb_S200x1x1280_S200x1x256_0_0_768, shapeCast S200x1x256 (tile3 x0 x1 x2) shapeCasts_S200x256_S200x1x256⟩, ⟨Rect.unit ![0, 0, 512] ![200, 1, 256] inb_S200x1x1280_S200x1x256_0_0_512, shapeCast S200x1x256 (tile2 x0 x1 x2) shapeCasts_S200x256_S200x1x256⟩, ⟨Rect.unit ![0, 0, 256] ![200, 1, 256] inb_S200x1x1280_S200x1x256_0_0_256, shapeCast S200x1x256 (tile1 x0 x1 x2) shapeCasts_S200x256_S200x1x256⟩, ⟨Rect.unit ![0, 0, 0] ![200, 1, 256] inb_S200x1x1280_S200x1x256_0_0_0, shapeCast S200x1x256 (tile0 x0 x1 x2) shapeCasts_S200x256_S200x1x256⟩] := by
  unfold out0_C_3
  rw [View.read_writes_eq_canon _ _ _ (cover0_C_3 c i a1 h1 a2 h2 a3 h3 a4 h4 a5 h5 a6 h6 a7 h7 a8 h8 a9 h9 a10 h10 hc0 hc1 x0 x1 x2 st.1 st.2.1 st.2.2)]
  unfold kernelRun0_C
  dsimp only
  sl_unfold_words
  simp only [View.readAt_eq_ld, h1.read_unread, h2.read_unread, h3.read_unread, h8.read_unread, h9.read_unread, h10.read_unread,
    View.ld_unit_zero (S := S200x128) hz, View.ld_unit_zero (S := S200x5120) hz, View.readCov_cons_toLoadRect, shapeCast_self]
  rfl

end CaseC

end Cert.KernelIdeal.Cases

end
-- ==== Proof.Logit.lean ====
/-
  The mathematics of a logit: the four-bit fields of a packed word, read two ways, and the sum over the 5120 activations,
  in order or nibble by nibble.
-/
module

public import Idealize.ShloMosaic.PureOps.Ideal.Laws
public import Mathlib.Data.EReal.Basic
public import Idealize.ShloMosaic.Lib.ValueIdxCore

@[expose] public section

noncomputable section

namespace Cert.Logit

/-- The field of `w` at nibble `k`, less 8. -/
def nib (w : BitVec 32) (k : ℕ) : EReal := ((((w.sshiftRight (4 * k)) &&& 15#32).toInt : ℝ) : EReal) - ((8 : ℝ) : EReal)

/-- The signed field of the word with the top bit of every field flipped is the unsigned field less 8. -/
theorem flipped (w : BitVec 32) {k : ℕ} (hk : k < 8) :
    ((((w ^^^ 2290649224#32).sshiftRight (4 * k)).setWidth 4).toInt : ℤ) = ((w.sshiftRight (4 * k)) &&& 15#32).toInt - 8 := by
  have hc : ∀ k < 8, ((2290649224#32 : BitVec 32).sshiftRight (4 * k)).setWidth 4 = 8#4 := by decide
  have hu : ∀ u : BitVec 4, (u ^^^ 8#4).toInt = (u.setWidth 32).toInt - 8 := by decide
  have hm : ∀ x : BitVec 32, x &&& 15#32 = (x.setWidth 4).setWidth 32 := by
    intro x
    apply BitVec.eq_of_toNat_eq
    rw [BitVec.toNat_and, BitVec.toNat_setWidth, BitVec.toNat_setWidth]
    have h15 : (15#32).toNat = 2 ^ 4 - 1 := by decide
    rw [h15, Nat.and_two_pow_sub_one_eq_mod]
    have : x.toNat % 2 ^ 4 < 2 ^ 4 := Nat.mod_lt _ (by decide)
    omega
  rw [BitVec.sshiftRight_xor_distrib, BitVec.setWidth_xor, hc k hk, hm, hu]

/-- The signed field as a value. -/
theorem nib_flipped (w : BitVec 32) {k : ℕ} (hk : k < 8) :
    ((((((w ^^^ 2290649224#32).sshiftRight (4 * k)).setWidth 4).toInt : ℤ) : ℝ) : EReal) = nib w k := by
  rw [flipped w hk, nib]
  push_cast
  rfl

/-- The logit of one row of activations against one column of words and scales. -/
def logitSum (X : Fin 5120 → EReal) (W : Fin 640 → BitVec 32) (S : Fin 40 → EReal) : EReal :=
  ∑ d : Fin 5120, X d * (nib (W ⟨d.val / 8, by omega⟩) (d.val % 8) * S ⟨d.val / 128, by omega⟩)

/-- The part of nibble `k`, group by group. -/
def part (X : Fin 5120 → EReal) (W : Fin 640 → BitVec 32) (S : Fin 40 → EReal) (k : Fin 8) : EReal :=
  ∑ g : Fin 40, ∑ j : Fin 16, X ⟨(g.val * 16 + j.val) * 8 + k.val, by omega⟩ * (nib (W ⟨g.val * 16 + j.val, by omega⟩) k.val * S g)

/-- A sum over the activations, by nibble, group and word. -/
theorem sum_split (f : Fin 5120 → EReal) :
    ∑ d, f d = ∑ k : Fin 8, ∑ g : Fin 40, ∑ j : Fin 16, f ⟨(g.val * 16 + j.val) * 8 + k.val, by omega⟩ := by
  rw [← Equiv.sum_comp (finProdFinEquiv (m := 640) (n := 8)) f, Fintype.sum_prod_type, Finset.sum_comm]
  refine Finset.sum_congr rfl fun k _ => ?_
  rw [← Equiv.sum_comp (finProdFinEquiv (m := 40) (n := 16)), Fintype.sum_prod_type]
  refine Finset.sum_congr rfl fun g _ => Finset.sum_congr rfl fun j _ => congrArg f (Fin.ext ?_)
  simp only [finProdFinEquiv_apply_val]
  omega

/-- The logit is the eight parts. -/
theorem logitSum_eq (X : Fin 5120 → EReal) (W : Fin 640 → BitVec 32) (S : Fin 40 → EReal) :
    logitSum X W S = ∑ k : Fin 8, part X W S k := by
  unfold logitSum part
  rw [sum_split]
  refine Finset.sum_congr rfl fun k _ => Finset.sum_congr rfl fun g _ => Finset.sum_congr rfl fun j _ => ?_
  have hk := k.isLt
  have hj := j.isLt
  have e1 : ((g.val * 16 + j.val) * 8 + k.val) / 8 = g.val * 16 + j.val := by omega
  have e2 : ((g.val * 16 + j.val) * 8 + k.val) % 8 = k.val := by omega
  have e3 : ((g.val * 16 + j.val) * 8 + k.val) / 128 = g.val := by omega
  simp only [e1, e2, e3]

open Idealize.ShloMosaic Idealize.ShloMosaic.ValueIdx in
/-- The logit of row `r` at column `v` of the three arguments (0 past the last column). -/
def rowLogit (x : (⟨3, ![200, 1, 5120]⟩ : Shape).Idx → EReal) (w : (⟨2, ![640, 32000]⟩ : Shape).Idx → BitVec 32)
    (s : (⟨2, ![40, 32000]⟩ : Shape).Idx → EReal) (r : Fin 200) (v : ℕ) : EReal :=
  if h : v < 32000 then logitSum (fun d => x (ix3 r (0 : Fin 1) d)) (fun a => w (ix2 a ⟨v, h⟩)) (fun g => s (ix2 g ⟨v, h⟩)) else 0

end Cert.Logit
-- ==== Proof.Tile.lean ====
/-
  One tile's product at the ideal values: the entry at row `r` and column `c` is the logit of row `r` of the activations
  against column `c` of the tile's words and scales.
-/
module

public import proofs.«01_k».proof.Proof.Cases
public import proofs.«01_k».proof.Proof.Logit
public import Idealize.ShloMosaic.Lib.MatmulPlain
public import Idealize.ShloMosaic.Lib.Pipeline.Value
public import Idealize.ShloMosaic.Lib.ValueIdxCore

@[expose] public section

noncomputable section

open Idealize.ShloMosaic Idealize.ShloMosaic.TcCoe Idealize.ShloMosaic.ValueIdx Idealize.SL.Sem

namespace Cert.KernelIdeal.Tile

open Cert.KernelIdeal Cert.KernelIdeal.Gen Cert.Logit

/-- The shifted words: word `a`'s eight shifts. -/
def shifted (w : Vec Ideal S640x256 .i32) : IVec S640x8x256 32 :=
  shrsi (broadcastTo S640x8x256 (shapeCast S640x1x256 (shapeCast S640x1x256 (xori w (broadcast S640x256 2290649224#32)) shapeCasts_S640x256_S640x1x256) shapeCasts_S640x1x256_S640x1x256) broadcasts_S640x1x256_S640x8x256)
    (muli (broadcast S640x8x256 4#32) (iota .tc S640x8x256 32 [1] iota_S640x8x256_d1_w32))

/-- The scaled fields. -/
def weights (w : Vec Ideal S640x256 .i32) (s : Vec Ideal S40x256 .bf16) : FVec Ideal S5120x256 .bf16 :=
  shapeCast S5120x256 (mulf (shapeCast S40x128x256 (sitofp .bf16 (trunci 4 (shapeCast S5120x256 (shifted w) shapeCasts_S640x8x256_S5120x256) natLt_4_32)) shapeCasts_S5120x256_S40x128x256)
    (broadcastTo S40x128x256 (shapeCast S40x1x256 s shapeCasts_S40x256_S40x1x256) broadcasts_S40x1x256_S40x128x256)) shapeCasts_S40x128x256_S5120x256

theorem pay9_eq (w : Vec Ideal S640x256 .i32) (s : Vec Ideal S40x256 .bf16) (x : Vec Ideal S200x5120 .bf16) :
    k0_pay9 w s x = matmul (DotDims.plain 200 5120 256) none (shapeCast S200x5120 x shapeCasts_S200x5120_S200x5120 : FVec Ideal S200x5120 .bf16) (weights w s) (constant S200x256 .f32 0x00000000#32) := rfl

theorem shifted_at (w : Vec Ideal S640x256 .i32) (a : Fin 640) (k : Fin 8) (c : Fin 256) :
    shifted w (ix3 a k c) = (w (ix2 a c) ^^^ 2290649224#32).sshiftRight (4 * k.val) := by
  have hb : broadcastTo S640x8x256 (shapeCast S640x1x256 (shapeCast S640x1x256 (xori w (broadcast S640x256 2290649224#32)) shapeCasts_S640x256_S640x1x256) shapeCasts_S640x1x256_S640x1x256) broadcasts_S640x1x256_S640x8x256 (ix3 a k c)
      = w (ix2 a c) ^^^ 2290649224#32 := by
    rw [broadcastTo_apply _ _ _ (ix3 a (0 : Fin 1) c) (by intro b; fin_cases b <;> rfl), shapeCast_self,
      shapeCast_apply _ _ _ (ix2 a c) (by rw [Shape.rowMajor_val_two, Shape.rowMajor_val_three]; simp [ix2, ix3])]
    rfl
  have hs : muli (broadcast S640x8x256 4#32) (iota .tc S640x8x256 32 [1] iota_S640x8x256_d1_w32) (ix3 a k c) = BitVec.ofNat 32 (4 * k.val) := by
    show IntOp.muli 4#32 (iota .tc S640x8x256 32 [1] iota_S640x8x256_d1_w32 (ix3 a k c)) = _
    rw [iota_single_apply]
    show 4#32 * BitVec.ofNat 32 k.val = _
    rw [← BitVec.ofNat_mul]
  have hk : (BitVec.ofNat 32 (4 * k.val)).toNat = 4 * k.val := by
    rw [BitVec.toNat_ofNat]; have := k.isLt; omega
  unfold shifted
  show IntOp.shrsi .vector _ _ = _
  rw [hb, hs]
  unfold IntOp.shrsi
  rw [hk, if_pos (by have := k.isLt; omega), BitVec.sshiftRight', hk]

theorem weights_at (w : Vec Ideal S640x256 .i32) (s : Vec Ideal S40x256 .bf16) (d : Fin 5120) (c : Fin 256) :
    weights w s (ix2 d c) = nib (w (ix2 ⟨d.val / 8, by omega⟩ c)) (d.val % 8) * s (ix2 ⟨d.val / 128, by omega⟩ c) := by
  have hd := d.isLt
  have hc := c.isLt
  unfold weights
  rw [shapeCast_apply _ _ _ (ix3 (⟨d.val / 128, by omega⟩ : Fin 40) (⟨d.val % 128, by omega⟩ : Fin 128) c)
    (by rw [Shape.rowMajor_val_two, Shape.rowMajor_val_three]; simp [ix2, ix3]; omega)]
  have h1 : shapeCast S40x128x256 (sitofp (F := Ideal) .bf16 (trunci 4 (shapeCast S5120x256 (shifted w) shapeCasts_S640x8x256_S5120x256) natLt_4_32)) shapeCasts_S5120x256_S40x128x256
      (ix3 (⟨d.val / 128, by omega⟩ : Fin 40) (⟨d.val % 128, by omega⟩ : Fin 128) c) = nib (w (ix2 ⟨d.val / 8, by omega⟩ c)) (d.val % 8) := by
    rw [shapeCast_apply _ _ _ (ix2 d c) (by rw [Shape.rowMajor_val_two, Shape.rowMajor_val_three]; simp [ix2, ix3]; omega)]
    show (((((shapeCast S5120x256 (shifted w) shapeCasts_S640x8x256_S5120x256 (ix2 d c)).setWidth 4).toInt : ℤ) : ℝ) : EReal) = _
    rw [shapeCast_apply _ _ _ (ix3 (⟨d.val / 8, by omega⟩ : Fin 640) (⟨d.val % 8, by omega⟩ : Fin 8) c)
      (by rw [Shape.rowMajor_val_two, Shape.rowMajor_val_three]; simp [ix2, ix3]; omega), shifted_at]
    exact nib_flipped _ (Nat.mod_lt _ (by decide))
  have h2 : broadcastTo S40x128x256 (shapeCast S40x1x256 s shapeCasts_S40x256_S40x1x256) broadcasts_S40x1x256_S40x128x256
      (ix3 (⟨d.val / 128, by omega⟩ : Fin 40) (⟨d.val % 128, by omega⟩ : Fin 128) c) = s (ix2 ⟨d.val / 128, by omega⟩ c) := by
    rw [broadcastTo_apply _ _ _ (ix3 (⟨d.val / 128, by omega⟩ : Fin 40) (0 : Fin 1) c) (by intro b; fin_cases b <;> rfl),
      shapeCast_apply _ _ _ (ix2 (⟨d.val / 128, by omega⟩ : Fin 40) c) (by rw [Shape.rowMajor_val_two, Shape.rowMajor_val_three]; simp [ix2, ix3])]
  rw [← h1, ← h2]
  rfl

/-- One tile's product at row `r` and column `c`. -/
theorem tile_at (w : Vec Ideal S640x256 .i32) (s : Vec Ideal S40x256 .bf16) (x : Vec Ideal S200x5120 .bf16) (r : Fin 200) (c : Fin 256) :
    k0_pay9 w s x (ix2 r c) = logitSum (fun d => x (ix2 r d)) (fun a => w (ix2 a c)) (fun g => s (ix2 g c)) := by
  rw [pay9_eq]
  show FloatOps.matmul (F := Ideal) (DotDims.plain 200 5120 256) none _ _ _ (ix2 r c) = _
  rw [Ideal.matmul_plain_apply, shapeCast_self]
  show Ideal.ofBits .f32 0x00000000#32 + _ = _
  rw [Ideal.ofBits_zero_f32, zero_add]
  exact Finset.sum_congr rfl fun d _ => congrArg (x (ix2 r d) * ·) (weights_at w s d c)

end Cert.KernelIdeal.Tile
-- ==== Proof.Blocks.lean ====
/-
  What one point reads and what its logits block holds: block column `q` of point `t` is column `1280 t + q` of the
  words and scales, so the tile starting at `o` has at row `r` and column `q` the logit of row `r` at column
  `1280 t + o + q`, and the block has at column `q` the logit at `1280 t + q`.
-/
module

public import proofs.«01_k».proof.Proof.Tile

@[expose] public section

noncomputable section

open Idealize.ShloMosaic Idealize.ShloMosaic.TcCoe Idealize.ShloMosaic.ValueIdx Idealize.SL.Sem

namespace Cert.KernelIdeal.Blocks

open Cert.KernelIdeal Cert.KernelIdeal.Gen Cert.Logit Cert.KernelIdeal.Cases Cert.KernelIdeal.Tile

variable (m : (ℓ : Loc nD τ sig) → Buf (Elt Ideal) ℓ) (c : Dev nD)

/-- The logit of row `r` at column `v` of the launch's arguments. -/
def L (r : Fin 200) (v : ℕ) : EReal :=
  rowLogit (m ((c.tc : Thread nD τ).loc main_arg0)) (m ((c.tc : Thread nD τ).loc main_arg1)) (m ((c.tc : Thread nD τ).loc main_arg2)) r v

theorem coord : ∀ t : Fin cfg0.N, ((grid0.coords t) 0 : ℕ) = t.val := (by decide +kernel : ∀ t : Fin grid0.N, _)
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)

theorem lt25 (t : Fin cfg0.N) : t.val < 25 := lt_of_lt_of_eq t.isLt N_0

/-- The activations as rows, before the launch. -/
theorem V_v0 : V m c main_v0 = shapeCast S200x5120 (m ((c.tc : Thread nD τ).loc main_arg0)) shapeCasts_S200x1x5120_S200x5120 := by
  show StableHlo.after hostOps0 (fun b => m (c, b)) (main_v0 : DevRef τ sig) = _
  after_results
  rfl

/-- The activations of a point: row `r`. -/
theorem iblk0_at (t : Fin cfg0.N) (r : Fin 200) (d : Fin 5120) :
    iblk m c 0 t (ix2 r d) = m ((c.tc : Thread nD τ).loc main_arg0) (ix3 r (0 : Fin 1) d) := by
  obtain ⟨e0, e1⟩ := idx0 t
  have hb : ((cfg0.win 0).blk t).view.emb (ix2 r d) = (ix2 r d : S200x5120.Idx) := by
    funext a; apply Fin.ext
    match a with
    | ⟨0, _⟩ => show win0_0.index t (0 : Fin 2) * 200 + 1 * r.val = r.val; omega
    | ⟨1, _⟩ => show win0_0.index t (1 : Fin 2) * 5120 + 1 * d.val = d.val; omega
  show V m c main_v0 (((cfg0.win 0).blk t).view.emb (ix2 r d)) = _
  rw [hb, V_v0, shapeCast_apply _ _ _ (ix3 r (0 : Fin 1) d) (by rw [Shape.rowMajor_val_two, Shape.rowMajor_val_three]; simp [ix2, ix3])]

/-- The words of a point: column `q`. -/
theorem iblk1_at (t : Fin cfg0.N) (a : Fin 640) (q : Fin 1280) :
    iblk m c 1 t (ix2 a q) = m ((c.tc : Thread nD τ).loc main_arg1) (ix2 a ⟨1280 * t.val + q.val, by have := lt25 t; omega⟩) := by
  obtain ⟨e0, e1⟩ := idx1 t
  have hb : ((cfg0.win 1).blk t).view.emb (ix2 a q) = (ix2 a ⟨1280 * t.val + q.val, by have := lt25 t; omega⟩ : S640x32000.Idx) := by
    funext b; apply Fin.ext
    match b with
    | ⟨0, _⟩ => show win0_1.index t (0 : Fin 2) * 640 + 1 * a.val = a.val; omega
    | ⟨1, _⟩ => show win0_1.index t (1 : Fin 2) * 1280 + 1 * q.val = 1280 * t.val + q.val; omega
  show V m c main_arg1 (((cfg0.win 1).blk t).view.emb (ix2 a q)) = _
  rw [hb, V_main_arg1]

/-- The scales of a point: column `q`. -/
theorem iblk2_at (t : Fin cfg0.N) (g : Fin 40) (q : Fin 1280) :
    iblk m c 2 t (ix2 g q) = m ((c.tc : Thread nD τ).loc main_arg2) (ix2 g ⟨1280 * t.val + q.val, by have := lt25 t; omega⟩) := by
  obtain ⟨e0, e1⟩ := idx2 t
  have hb : ((cfg0.win 2).blk t).view.emb (ix2 g q) = (ix2 g ⟨1280 * t.val + q.val, by have := lt25 t; omega⟩ : S40x32000.Idx) := by
    funext b; apply Fin.ext
    match b with
    | ⟨0, _⟩ => show win0_2.index t (0 : Fin 2) * 40 + 1 * g.val = g.val; omega
    | ⟨1, _⟩ => show win0_2.index t (1 : Fin 2) * 1280 + 1 * q.val = 1280 * t.val + q.val; omega
  show V m c main_arg2 (((cfg0.win 2).blk t).view.emb (ix2 g q)) = _
  rw [hb, V_main_arg2]

/-- A tile of a point: the product over the columns from `o` on. -/
theorem tile_entry (t : Fin cfg0.N) (o : ℕ) (ho : o + 256 ≤ 1280) (inb1 : ∀ a, (![0, o] : Fin 2 → ℕ) a + (![640, 256] : Fin 2 → ℕ) a ≤ S640x1280.size a)
    (inb2 : ∀ a, (![0, o] : Fin 2 → ℕ) a + (![40, 256] : Fin 2 → ℕ) a ≤ S40x1280.size a) (r : Fin 200) (q : Fin 256) :
    (k0_pay9 (View.ld (iblk m c 1 t : Vec Ideal S640x1280 .i32) (Rect.unit ![0, o] ![640, 256] inb1))
      (View.ld (iblk m c 2 t : Vec Ideal S40x1280 .bf16) (Rect.unit ![0, o] ![40, 256] inb2)) (iblk m c 0 t) : FVec Ideal S200x256 .f32) (ix2 r q)
      = L m c r (1280 * t.val + o + q.val) := by
  have ht := lt25 t
  have hq := q.isLt
  rw [tile_at]
  unfold L rowLogit
  rw [dif_pos (by omega)]
  congr 1
  · funext d; exact iblk0_at m c t r d
  · funext a
    refine (View.ld_unit_apply_of _ _ _ _ _ (ix2 a (⟨o + q.val, by omega⟩ : Fin 1280)) ?_).trans ((iblk1_at m c t a _).trans ?_)
    · intro b
      match b with
      | ⟨0, _⟩ => show a.val = 0 + a.val; omega
      | ⟨1, _⟩ => rfl
    · congr 2; apply Fin.ext; show 1280 * t.val + (o + q.val) = 1280 * t.val + o + q.val; omega
  · funext g
    refine (View.ld_unit_apply_of _ _ _ _ _ (ix2 g (⟨o + q.val, by omega⟩ : Fin 1280)) ?_).trans ((iblk2_at m c t g _).trans ?_)
    · intro b
      match b with
      | ⟨0, _⟩ => show g.val = 0 + g.val; omega
      | ⟨1, _⟩ => rfl
    · congr 2; apply Fin.ext; show 1280 * t.val + (o + q.val) = 1280 * t.val + o + q.val; omega

/-- The logits block a point's five stores leave. -/
abbrev block (x0 : Vec Ideal S200x5120 .bf16) (x1 : Vec Ideal S640x1280 .i32) (x2 : Vec Ideal S40x1280 .bf16) : Vec Ideal S200x1x1280 .f32 :=
  View.canon (Val := Elt Ideal) (s := S200x1x1280) (e := .f32) [⟨Rect.unit ![0, 0, 1024] ![200, 1, 256] inb_S200x1x1280_S200x1x256_0_0_1024, shapeCast S200x1x256 (tile4 x0 x1 x2) shapeCasts_S200x256_S200x1x256⟩, ⟨Rect.unit ![0, 0, 768] ![200, 1, 256] inb_S200x1x1280_S200x1x256_0_0_768, shapeCast S200x1x256 (tile3 x0 x1 x2) shapeCasts_S200x256_S200x1x256⟩, ⟨Rect.unit ![0, 0, 512] ![200, 1, 256] inb_S200x1x1280_S200x1x256_0_0_512, shapeCast S200x1x256 (tile2 x0 x1 x2) shapeCasts_S200x256_S200x1x256⟩, ⟨Rect.unit ![0, 0, 256] ![200, 1, 256] inb_S200x1x1280_S200x1x256_0_0_256, shapeCast S200x1x256 (tile1 x0 x1 x2) shapeCasts_S200x256_S200x1x256⟩, ⟨Rect.unit ![0, 0, 0] ![200, 1, 256] inb_S200x1x1280_S200x1x256_0_0_0, shapeCast S200x1x256 (tile0 x0 x1 x2) shapeCasts_S200x256_S200x1x256⟩]

/-- One store of it, at an index its columns hold. -/
theorem store_at (t : Fin cfg0.N) (o : ℕ) (ho : o + 256 ≤ 1280) (y : FVec Ideal S200x256 .f32)
    (hy : ∀ (r : Fin 200) (q : Fin 256), y (ix2 r q) = L m c r (1280 * t.val + o + q.val)) (r : Fin 200) (q : Fin 1280) :
    View.TileAt (Val := Elt Ideal) (e := .f32) (S := S200x1x1280) (ix3 r (0 : Fin 1) q) ![0, 0, o] ![200, 1, 256]
      (shapeCast S200x1x256 y shapeCasts_S200x256_S200x1x256) (L m c r (1280 * t.val + q.val)) := by
  intro x hx
  have h0 : r.val = 0 + (x 0).val := hx 0
  have h1 : 0 = 0 + (x 1).val := hx 1
  have h2 : q.val = o + (x 2).val := hx 2
  have l2 : (x 2).val < 256 := (x 2).isLt
  refine (shapeCast_apply _ _ _ (ix2 r (⟨(x 2).val, l2⟩ : Fin 256)) ?_).trans ((hy r _).trans ?_)
  · rw [Shape.rowMajor_val_two, Shape.rowMajor_val_three]
    show r.val * 256 + (x 2).val = ((x 0).val * 1 + (x 1).val) * 256 + (x 2).val
    omega
  · congr 1
    show 1280 * t.val + o + (x 2).val = _
    omega

/-- The block at column `q`. -/
theorem block_at (t : Fin cfg0.N) (r : Fin 200) (q : Fin 1280) :
    block (iblk m c 0 t) (iblk m c 1 t) (iblk m c 2 t) (ix3 r (0 : Fin 1) q) = L m c r (1280 * t.val + q.val) := by
  have hq := q.isLt
  refine View.canon_eq_of_allAt _ _ _ (View.cover_of_tiled_head _ _ _ rfl _) ?_
  refine View.allAt_cons_unit _ _ _ _ _ (store_at m c t 1024 (by omega) _ (fun r q => tile_entry m c t 1024 (by omega) _ _ r q) r q) ?_
  refine View.allAt_cons_unit _ _ _ _ _ (store_at m c t 768 (by omega) _ (fun r q => tile_entry m c t 768 (by omega) _ _ r q) r q) ?_
  refine View.allAt_cons_unit _ _ _ _ _ (store_at m c t 512 (by omega) _ (fun r q => tile_entry m c t 512 (by omega) _ _ r q) r q) ?_
  refine View.allAt_cons_unit _ _ _ _ _ (store_at m c t 256 (by omega) _ (fun r q => tile_entry m c t 256 (by omega) _ _ r q) r q) ?_
  refine View.allAt_cons_unit _ _ _ _ _ (store_at m c t 0 (by omega) _ (fun r q => tile_entry m c t 0 (by omega) _ _ r q) r q) ?_
  exact View.allAt_nil _ _

end Cert.KernelIdeal.Blocks
-- ==== Proof.Greatest.lean ====
/-
  The greatest two entries of a row, as order facts alone (no program is read here).

  A row is a function `f` of the positions `0 … N-1` into the extended reals. `IsTop` says that `t` is the LEAST position
  of a greatest entry, `IsSecond` that `s` is the greatest of the entries at the other positions. Both determine what they
  name (`IsTop.unique`, `IsSecond.unique`), so two programs that each reach values with these two properties agree.

  `Lane` is what a walk of every 128-th position remembers: the greatest entry seen, the greatest of the others, and the
  first position of the greatest. `laneStep` is one step of the walk, and `Lane` is kept by it (`Lane.step`). `combine_top`
  and `combine_second` say what 128 such walks, together the whole row, give.
-/
module

public import Mathlib.Data.EReal.Basic
public import Idealize.ShloMosaic.PureOps.Ideal.Laws

@[expose] public section

namespace Cert.Greatest

/-- `t` is the least position of a greatest entry among the first `N` entries of `f`. -/
structure IsTop (N : ℕ) (f : ℕ → EReal) (t : ℕ) : Prop where
  lt : t < N
  le : ∀ i, i < N → f i ≤ f t
  first : ∀ i, i < t → f i < f t

/-- `s` is the greatest entry among those at a position other than `t` (`⊥` if all of those are). -/
structure IsSecond (N : ℕ) (f : ℕ → EReal) (t : ℕ) (s : EReal) : Prop where
  le : ∀ i, i < N → i ≠ t → f i ≤ s
  mem : s = ⊥ ∨ ∃ i, i < N ∧ i ≠ t ∧ f i = s

variable {N : ℕ} {f : ℕ → EReal}

/-- The least position of a greatest entry is one position. -/
theorem IsTop.unique {t t' : ℕ} (h : IsTop N f t) (h' : IsTop N f t') : t = t' := by
  rcases lt_trichotomy t t' with hlt | heq | hgt
  · exact absurd (h.le t' h'.lt) (not_le.mpr (h'.first t hlt))
  · exact heq
  · exact absurd (h'.le t h.lt) (not_le.mpr (h.first t' hgt))

private theorem IsSecond.le_of {t : ℕ} {s s' : EReal} (h : IsSecond N f t s) (h' : IsSecond N f t s') : s ≤ s' := by
  rcases h.mem with rfl | ⟨i, hi, hit, rfl⟩
  · exact bot_le
  · exact h'.le i hi hit

/-- The greatest of the other entries does not depend on WHICH position of a greatest entry is left out. -/
theorem IsSecond.unique {t t' : ℕ} {s s' : EReal} (ht : t < N) (ht' : t' < N) (hg : ∀ i, i < N → f i ≤ f t)
    (hg' : ∀ i, i < N → f i ≤ f t') (h : IsSecond N f t s) (h' : IsSecond N f t' s') : s = s' := by
  by_cases e : t = t'
  · subst e; exact le_antisymm (h.le_of h') (h'.le_of h)
  · have hs : s = f t := le_antisymm
      (by rcases h.mem with rfl | ⟨i, hi, -, rfl⟩
          · exact bot_le
          · exact hg i hi)
      ((hg' t ht).trans (h.le t' ht' (fun h => e h.symm)))
    have hs' : s' = f t' := le_antisymm
      (by rcases h'.mem with rfl | ⟨i, hi, -, rfl⟩
          · exact bot_le
          · exact hg' i hi)
      ((hg t' ht').trans (h'.le t ht e))
    rw [hs, hs']
    exact le_antisymm (hg' t ht) (hg t' ht')

/-- One step of a lane's walk: entry `v`, at the position the word `w` names. -/
noncomputable def laneStep (v : EReal) (w : BitVec 32) (a : EReal × EReal × BitVec 32) : EReal × EReal × BitVec 32 :=
  (max a.1 v, max a.2.1 (min a.1 v), if a.1 < v then w else a.2.2)

/-- The lane `l`'s walk so far: `p` steps, at the positions `128 * k + l`. -/
noncomputable def laneWalk (f : ℕ → EReal) (l : ℕ) : ℕ → EReal × EReal × BitVec 32
  | 0 => (⊥, ⊥, 0#32)
  | p + 1 => laneStep (f (128 * p + l)) (BitVec.ofNat 32 (128 * p + l)) (laneWalk f l p)

/-- What lane `l` holds after `p` steps: every entry seen is at most the first component; and either nothing above `⊥`
    was seen, or the word names the first position `128 * k + l` of the greatest entry and the second component is the
    greatest of the lane's other entries. -/
structure Lane (f : ℕ → EReal) (l p : ℕ) (a : EReal × EReal × BitVec 32) : Prop where
  le : ∀ k, k < p → f (128 * k + l) ≤ a.1
  mem : (a = (⊥, ⊥, 0#32)) ∨ ∃ k, k < p ∧ a.2.2 = BitVec.ofNat 32 (128 * k + l) ∧ f (128 * k + l) = a.1 ∧ ⊥ < a.1
    ∧ (∀ k', k' < k → f (128 * k' + l) < a.1) ∧ (∀ k', k' < p → k' ≠ k → f (128 * k' + l) ≤ a.2.1)
    ∧ (a.2.1 = ⊥ ∨ ∃ k', k' < p ∧ k' ≠ k ∧ f (128 * k' + l) = a.2.1)

theorem Lane.zero (l : ℕ) : Lane f l 0 (⊥, ⊥, 0#32) := ⟨fun _ h => absurd h (Nat.not_lt_zero _), Or.inl rfl⟩

/-- A step keeps what the lane holds. -/
theorem Lane.step {l p : ℕ} {a : EReal × EReal × BitVec 32} (h : Lane f l p a) :
    Lane f l (p + 1) (laneStep (f (128 * p + l)) (BitVec.ofNat 32 (128 * p + l)) a) := by
  obtain ⟨m1, m2, ix⟩ := a
  obtain ⟨hle, hmem⟩ := h
  dsimp only at hle hmem
  set v := f (128 * p + l) with hv
  refine ⟨fun k hk => ?_, ?_⟩
  · rcases Nat.lt_succ_iff_lt_or_eq.mp hk with hk | rfl
    · exact (hle k hk).trans (le_max_left _ _)
    · exact le_max_right _ _
  · by_cases hlt : m1 < v
    · refine Or.inr ⟨p, Nat.lt_succ_self p, ?_⟩
      have e1 : max m1 v = v := max_eq_right hlt.le
      have e2 : min m1 v = m1 := min_eq_left hlt.le
      simp only [laneStep, hlt, if_true, e1, e2]
      have hm2 : m2 ≤ m1 := by
        rcases hmem with he | ⟨k, -, -, -, -, -, -, h2⟩
        · simp only [Prod.mk.injEq] at he; rw [he.1, he.2.1]
        · rcases h2 with rfl | ⟨k', hk', -, rfl⟩
          · exact bot_le
          · exact hle k' hk'
      rw [max_eq_right hm2]
      refine ⟨trivial, hv.symm, lt_of_le_of_lt bot_le hlt, fun k' hk' => lt_of_le_of_lt (hle k' hk') hlt, fun k' hk' hne => ?_, ?_⟩
      · exact hle k' (by omega)
      · rcases hmem with he | ⟨k, hk, -, hfk, -⟩
        · simp only [Prod.mk.injEq] at he; exact Or.inl he.1
        · exact Or.inr ⟨k, by omega, by omega, hfk⟩
    · have hvle : v ≤ m1 := not_lt.mp hlt
      have e1 : max m1 v = m1 := max_eq_left hvle
      have e2 : min m1 v = v := min_eq_right hvle
      rcases hmem with he | ⟨k, hk, hix, hfk, hbot, hfirst, hoth, h2⟩
      · left
        simp only [Prod.mk.injEq] at he
        obtain ⟨rfl, rfl, rfl⟩ := he
        have : v = ⊥ := le_bot_iff.mp hvle
        simp [laneStep, this]
      · right
        refine ⟨k, by omega, ?_⟩
        simp only [laneStep, hlt, if_false, e1, e2]
        refine ⟨hix, hfk, hbot, hfirst, fun k' hk' hne => ?_, ?_⟩
        · rcases Nat.lt_succ_iff_lt_or_eq.mp hk' with hk' | rfl
          · exact (hoth k' hk' hne).trans (le_max_left _ _)
          · exact le_max_right _ _
        · rcases le_total m2 v with hmv | hmv
          · rw [max_eq_right hmv]; exact Or.inr ⟨p, by omega, by omega, rfl⟩
          · rw [max_eq_left hmv]
            rcases h2 with h2 | ⟨k', hk', hne, he⟩
            · exact Or.inl h2
            · exact Or.inr ⟨k', by omega, hne, he⟩

/-- The walk holds what `Lane` says, after every number of steps. -/
theorem lane_walk (f : ℕ → EReal) (l : ℕ) : ∀ p, Lane f l p (laneWalk f l p)
  | 0 => Lane.zero l
  | p + 1 => (lane_walk f l p).step

/-- The lanes' walks together see the whole row: `P` steps of 128 lanes are the first `128 * P` positions. What the
    three combined values of the row are: `top` the greatest first component, `tok` the least word (as a signed number)
    among the lanes that attain it, `sec` the greatest of the second component in the lanes that hold `tok` and the first
    component in the others. -/
structure Combined (a : ℕ → EReal × EReal × BitVec 32) (top : EReal) (tok : BitVec 32) (sec : EReal) : Prop where
  top_le : ∀ l, l < 128 → (a l).1 ≤ top
  top_mem : ∃ l, l < 128 ∧ (a l).1 = top
  tok_le : ∀ l, l < 128 → (a l).1 = top → tok.toInt ≤ (a l).2.2.toInt
  tok_mem : ∃ l, l < 128 ∧ (a l).1 = top ∧ (a l).2.2 = tok
  sec_le : ∀ l, l < 128 → (if (a l).2.2 = tok then (a l).2.1 else (a l).1) ≤ sec
  sec_mem : ∃ l, l < 128 ∧ (if (a l).2.2 = tok then (a l).2.1 else (a l).1) = sec

theorem toInt_ofNat_small {n : ℕ} (h : n < 2 ^ 31) : (BitVec.ofNat 32 n).toInt = n := by
  rw [BitVec.toInt_eq_toNat_of_lt] <;> rw [BitVec.toNat_ofNat] <;> omega

theorem ofNat_inj_small {n n' : ℕ} (h : n < 2 ^ 31) (h' : n' < 2 ^ 31) (e : BitVec.ofNat 32 n = BitVec.ofNat 32 n') :
    n = n' := by
  have := congrArg BitVec.toNat e
  simp only [BitVec.toNat_ofNat] at this
  omega

/-- The combined values are the row's: `tok` names the least position of a greatest entry, which is `top`, and `sec` is
    the greatest of the entries at the other positions. -/
theorem combined_spec {P : ℕ} (hP : 0 < P) (hP' : 128 * P < 2 ^ 31) {a : ℕ → EReal × EReal × BitVec 32}
    (ha : ∀ l, l < 128 → Lane f l P (a l)) {top : EReal} {tok : BitVec 32} {sec : EReal} (h : Combined a top tok sec) :
    ∃ t, IsTop (128 * P) f t ∧ tok = BitVec.ofNat 32 t ∧ top = f t ∧ IsSecond (128 * P) f t sec := by
  -- the lane and the step of a position
  have pos : ∀ i, i < 128 * P → ∃ l k, l < 128 ∧ k < P ∧ i = 128 * k + l := fun i hi =>
    ⟨i % 128, i / 128, by omega, by omega, by omega⟩
  have hall : ∀ i, i < 128 * P → f i ≤ top := by
    intro i hi
    obtain ⟨l, k, hl, hk, rfl⟩ := pos i hi
    exact ((ha l hl).le k hk).trans (h.top_le l hl)
  rcases eq_or_ne top ⊥ with htop | htop
  · -- nothing above `⊥`: position 0
    have hf : ∀ i, i < 128 * P → f i = ⊥ := fun i hi => le_bot_iff.mp (htop ▸ hall i hi)
    have hl : ∀ l, l < 128 → a l = (⊥, ⊥, 0#32) := by
      intro l hl
      rcases (ha l hl).mem with he | ⟨k, -, -, -, hb, -⟩
      · exact he
      · exact absurd (h.top_le l hl) (not_le.mpr (htop ▸ hb))
    obtain ⟨l0, hl0, -, htok⟩ := h.tok_mem
    rw [hl l0 hl0] at htok
    refine ⟨0, ⟨by omega, fun i hi => ?_, fun i hi => absurd hi (Nat.not_lt_zero _)⟩, htok.symm, ?_, ⟨fun i hi _ => ?_, ?_⟩⟩
    · rw [hf i hi]; exact bot_le
    · rw [htop, hf 0 (by omega)]
    · rw [hf i hi]; exact bot_le
    · left
      obtain ⟨l, hll, hs⟩ := h.sec_mem
      rw [hl l hll] at hs
      simpa using hs.symm
  · have hbt : ⊥ < top := bot_lt_iff_ne_bot.mpr htop
    obtain ⟨l0, hl0, h10, hx0⟩ := h.tok_mem
    rcases (ha l0 hl0).mem with he | ⟨k0, hk0, hix, hfk, -, hfirst, hoth, h2⟩
    · rw [he] at h10; exact absurd h10.symm htop
    have htok : tok = BitVec.ofNat 32 (128 * k0 + l0) := hx0.symm.trans hix
    have htoki : tok.toInt = (128 * k0 + l0 : ℕ) := by rw [htok]; exact toInt_ofNat_small (by omega)
    have hft : f (128 * k0 + l0) = top := hfk.trans h10
    -- a lane other than `l0` does not hold `tok`, unless it is empty
    have hne : ∀ l, l < 128 → l ≠ l0 → (a l).2.2 = tok → a l = (⊥, ⊥, 0#32) := by
      intro l hl hll he
      rcases (ha l hl).mem with hh | ⟨k, hk, hx, -⟩
      · exact hh
      · have := ofNat_inj_small (by omega) (by omega) (hx.symm.trans (he.trans htok))
        omega
    refine ⟨128 * k0 + l0, ⟨by omega, fun i hi => ?_, fun i hi => ?_⟩, htok, hft.symm, ⟨fun i hi hne' => ?_, ?_⟩⟩
    · rw [hft]; exact hall i hi
    · rw [hft]
      obtain ⟨l, k, hl, hk, rfl⟩ := pos i (by omega)
      refine lt_of_le_of_ne (hall _ (by omega)) fun e => ?_
      have h1 : (a l).1 = top := le_antisymm (h.top_le l hl) (e ▸ (ha l hl).le k hk)
      have hle := h.tok_le l hl h1
      rcases (ha l hl).mem with he | ⟨k', hk', hx, -, -, hfirst', -⟩
      · rw [he] at h1; exact htop h1.symm
      · rw [htoki, hx, toInt_ofNat_small (by omega)] at hle
        have : k < k' := by omega
        exact absurd (hfirst' k this) (by rw [e, h1]; exact lt_irrefl _)
    · obtain ⟨l, k, hl, hk, rfl⟩ := pos i hi
      refine le_trans ?_ (h.sec_le l hl)
      by_cases hll : l = l0
      · subst hll
        rw [if_pos hx0]
        exact hoth k hk (by omega)
      · split
        · next hh =>
          have := (ha l hl).le k hk
          rw [hne l hl hll hh] at this ⊢
          exact this
        · exact (ha l hl).le k hk
    · obtain ⟨l, hl, hs⟩ := h.sec_mem
      by_cases hll : l = l0
      · subst hll
        rw [if_pos hx0] at hs
        rcases h2 with h2 | ⟨k', hk', hne', he⟩
        · exact Or.inl (hs.symm.trans h2)
        · exact Or.inr ⟨128 * k' + l, by omega, by omega, he.trans hs⟩
      · split at hs
        · next hh =>
          rw [hne l hl hll hh] at hs
          exact Or.inl hs.symm
        · next hh =>
          rcases (ha l hl).mem with he | ⟨k, hk, hx, hfk', -⟩
          · rw [he] at hs; exact Or.inl hs.symm
          · refine Or.inr ⟨128 * k + l, by omega, fun e => hh ?_, hfk'.trans hs⟩
            rw [hx, e, htok]

end Cert.Greatest
-- ==== Proof.State.lean ====
/-
  The carried state along the sweep: after point `n` lane `l` of row `r` holds the walk of the row's logits at the lane's
  positions `l, 128 + l, 256 + l, …` through its first `10 (n + 1)` of them (Greatest.lean `laneWalk`).
-/
module

public import proofs.«01_k».proof.Proof.Blocks
public import proofs.«01_k».proof.Proof.Greatest

@[expose] public section

noncomputable section

open Idealize.ShloMosaic Idealize.ShloMosaic.TcCoe Idealize.ShloMosaic.ValueIdx Idealize.SL.Sem

namespace Cert.KernelIdeal.State

open Cert.KernelIdeal Cert.KernelIdeal.Gen Cert.KernelIdeal.Value Cert.Logit Cert.KernelIdeal.Cases Cert.KernelIdeal.Blocks Cert.Greatest

/-- Lane `l` of row `r` of a state. -/
def lane (st : St Ideal) (r : Fin 200) (l : Fin 128) : EReal × EReal × BitVec 32 :=
  (st.1 (ix2 r l), st.2.1 (ix2 r l), st.2.2 (ix2 r l))

/-- One slice's update, lane by lane. -/
theorem upd_lane (base : ℕ) (v : FVec Ideal S200x128 .f32) (st : St Ideal) (r : Fin 200) (l : Fin 128) :
    lane (upd (BitVec.ofNat 32 base) v st) r l = laneStep (v (ix2 r l)) (BitVec.ofNat 32 (base + l.val)) (lane st r l) := by
  have hw : addi (broadcast S200x128 (BitVec.ofNat 32 base)) (iota .tc S200x128 32 [1] iota_S200x128_d1_w32) (ix2 r l) = BitVec.ofNat 32 (base + l.val) := by
    show BitVec.ofNat 32 base + iota .tc S200x128 32 [1] iota_S200x128_d1_w32 (ix2 r l) = _
    rw [iota_single_apply, ← BitVec.ofNat_add]
  have hs : select (cmpf .ogt v st.1) (addi (broadcast S200x128 (BitVec.ofNat 32 base)) (iota .tc S200x128 32 [1] iota_S200x128_d1_w32)) st.2.2 (ix2 r l)
      = if st.1 (ix2 r l) < v (ix2 r l) then BitVec.ofNat 32 (base + l.val) else st.2.2 (ix2 r l) := by
    rw [select_apply, cmpf_apply, Ideal.cmpf_def, hw]
    unfold Ideal.cmp Scalar.select
    by_cases h : st.1 (ix2 r l) < v (ix2 r l) <;> simp [h]
  show (_, _, _) = (_, _, _)
  exact congrArg₂ Prod.mk rfl (congrArg₂ Prod.mk rfl hs)

/-- The word a slice starts from. -/
theorem base_eq (t o h : ℕ) :
    Scalar.addi (Scalar.addi (Scalar.muli (BitVec.ofNat 32 t) 1280#32) (BitVec.ofNat 32 o)) (BitVec.ofNat 32 h) = BitVec.ofNat 32 (t * 1280 + o + h) := by
  show (BitVec.ofNat 32 t * BitVec.ofNat 32 1280 + BitVec.ofNat 32 o) + BitVec.ofNat 32 h = _
  rw [← BitVec.ofNat_mul, ← BitVec.ofNat_add, ← BitVec.ofNat_add]

/-- One tile's two slices are two steps of every lane. -/
theorem tileUpd_lane (f : ℕ → EReal) (t j : ℕ) (y : FVec Ideal S200x256 .f32) (st : St Ideal) (r : Fin 200) (l : Fin 128)
    (hy : ∀ q : Fin 256, y (ix2 r q) = f (1280 * t + 256 * j + q.val)) (hst : lane st r l = laneWalk f l.val (10 * t + 2 * j)) :
    lane (tileUpd (BitVec.ofNat 32 t) (BitVec.ofNat 32 (256 * j)) y st) r l = laneWalk f l.val (10 * t + 2 * (j + 1)) := by
  have hl := l.isLt
  unfold tileUpd
  rw [show (128#32) = BitVec.ofNat 32 128 from rfl, show (0#32) = BitVec.ofNat 32 0 from rfl, base_eq, base_eq, upd_lane, upd_lane, hst]
  have e0 : extractStridedSlice S200x128 ![0, 0] y slices_S200x256_o0_0_S200x128 (ix2 r l) = f (128 * (10 * t + 2 * j) + l.val) := by
    have : extractStridedSlice S200x128 ![0, 0] y slices_S200x256_o0_0_S200x128 (ix2 r l) = y (ix2 r (⟨l.val, by omega⟩ : Fin 256)) := by
      unfold extractStridedSlice
      congr 1; funext a; apply Fin.ext
      match a with
      | ⟨0, _⟩ => show 0 + r.val = r.val; omega
      | ⟨1, _⟩ => show 0 + l.val = l.val; omega
    rw [this, hy]; congr 1; show 1280 * t + 256 * j + l.val = _; omega
  have e1 : extractStridedSlice S200x128 ![0, 128] y slices_S200x256_o0_128_S200x128 (ix2 r l) = f (128 * (10 * t + 2 * j + 1) + l.val) := by
    have : extractStridedSlice S200x128 ![0, 128] y slices_S200x256_o0_128_S200x128 (ix2 r l) = y (ix2 r (⟨128 + l.val, by omega⟩ : Fin 256)) := by
      unfold extractStridedSlice
      congr 1; funext a; apply Fin.ext
      match a with
      | ⟨0, _⟩ => show 0 + r.val = r.val; omega
      | ⟨1, _⟩ => rfl
    rw [this, hy]; congr 1; show 1280 * t + 256 * j + (128 + l.val) = _; omega
  rw [e0, e1, show t * 1280 + 256 * j + 0 + l.val = 128 * (10 * t + 2 * j) + l.val by omega,
    show t * 1280 + 256 * j + 128 + l.val = 128 * (10 * t + 2 * j + 1) + l.val by omega]
  rfl

variable (m : (ℓ : Loc nD τ sig) → Buf (Elt Ideal) ℓ) (c : Dev nD)

/-- One point's ten updates are ten steps of every lane. -/
theorem point_lane (t : Fin cfg0.N) (st : St Ideal) (r : Fin 200) (l : Fin 128)
    (hst : lane st r l = laneWalk (L m c r) l.val (10 * t.val)) :
    lane (pointUpd (BitVec.ofNat 32 ((grid0.coords t) 0)) (iblk m c 0 t) (iblk m c 1 t) (iblk m c 2 t) st) r l
      = laneWalk (L m c r) l.val (10 * (t.val + 1)) := by
  rw [coord t]
  have h0 := tileUpd_lane (L m c r) t.val 0 _ st r l (fun q => tile_entry m c t 0 (by omega) inb_S640x1280_S640x256_0_0 inb_S40x1280_S40x256_0_0 r q) hst
  have h1 := tileUpd_lane (L m c r) t.val 1 _ _ r l (fun q => tile_entry m c t 256 (by omega) inb_S640x1280_S640x256_0_256 inb_S40x1280_S40x256_0_256 r q) h0
  have h2 := tileUpd_lane (L m c r) t.val 2 _ _ r l (fun q => tile_entry m c t 512 (by omega) inb_S640x1280_S640x256_0_512 inb_S40x1280_S40x256_0_512 r q) h1
  have h3 := tileUpd_lane (L m c r) t.val 3 _ _ r l (fun q => tile_entry m c t 768 (by omega) inb_S640x1280_S640x256_0_768 inb_S40x1280_S40x256_0_768 r q) h2
  have h4 := tileUpd_lane (L m c r) t.val 4 _ _ r l (fun q => tile_entry m c t 1024 (by omega) inb_S640x1280_S640x256_0_1024 inb_S40x1280_S40x256_0_1024 r q) h3
  exact h4

theorem start_lane (f : ℕ → EReal) (r : Fin 200) (l : Fin 128) : lane (start : St Ideal) r l = laneWalk f l.val 0 := by
  have hb : Ideal.ofBits .f32 0xFF800000#32 = ⊥ := by simp [Ideal.ofBits, Ideal.ieee]
  have hf (p : BitVec 32) : shapeCast S200x128 (broadcast S200x128 (Ideal.ofBits .f32 p)) shapeCasts_S200x128_S200x128 (ix2 r l) = Ideal.ofBits .f32 p := by
    rw [shapeCast_self]; rfl
  have hw : shapeCast S200x128 (broadcast S200x128 0#32) shapeCasts_S200x128_S200x128 (ix2 r l) = 0#32 := by
    rw [shapeCast_self]; rfl
  exact congrArg₂ Prod.mk ((hf _).trans hb) (congrArg₂ Prod.mk ((hf _).trans hb) hw)

/-- A triple equal to another component by component. -/
theorem triple_eq {A B C : Type} {a : A} {b : B} {d : C} (p : A × B × C) (ha : a = p.1) (hb : b = p.2.1) (hd : d = p.2.2) : (a, b, d) = p := by
  subst ha hb hd; rfl

/-- The state the fold carries. -/
def stateOf (a : Vec Ideal S200x1x1280 .f32 × Vec Ideal S1x200 .i32 × Vec Ideal S1x200 .f32 × Vec Ideal S1x200 .f32 × Vec Ideal S200x128 .f32 × Vec Ideal S200x128 .f32 × Vec Ideal S200x128 .i32) : St Ideal :=
  (a.2.2.2.2.1, a.2.2.2.2.2.1, a.2.2.2.2.2.2)

/-- The first point's tuple. -/
theorem stA (t : Fin cfg0.N) (acc) (h0 : t.val % 25 = 0) (h1 : ¬t.val % 25 = 24) :
    (stAt0 m c t.val t.isLt acc).1 = block (iblk m c 0 t) (iblk m c 1 t) (iblk m c 2 t)
    ∧ stateOf (stAt0 m c t.val t.isLt acc) = pointUpd (BitVec.ofNat 32 ((grid0.coords t) 0)) (iblk m c 0 t) (iblk m c 1 t) (iblk m c 2 t) start := by
  rw [stAt0_A m c t acc h0 h1]
  unfold stateOf
  dsimp only
  rw [out_A_3, sout_A_0, sout_A_1, sout_A_2]
  exact ⟨rfl, triple_eq _ rfl rfl rfl⟩

/-- A middle point's. -/
theorem stB (t : Fin cfg0.N) (acc) (h0 : ¬t.val % 25 = 0) (h1 : ¬t.val % 25 = 24) :
    (stAt0 m c t.val t.isLt acc).1 = block (iblk m c 0 t) (iblk m c 1 t) (iblk m c 2 t)
    ∧ stateOf (stAt0 m c t.val t.isLt acc) = pointUpd (BitVec.ofNat 32 ((grid0.coords t) 0)) (iblk m c 0 t) (iblk m c 1 t) (iblk m c 2 t) (stateOf acc) := by
  rw [stAt0_B m c t acc h0 h1]
  unfold stateOf
  dsimp only
  refine ⟨out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) _ _ (iblk m c 0 t) (iblk m c 1 t) (iblk m c 2 t) (stateOf acc), triple_eq _ (sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) _ _ (iblk m c 0 t) (iblk m c 1 t) (iblk m c 2 t) (stateOf acc)) (sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) _ _ (iblk m c 0 t) (iblk m c 1 t) (iblk m c 2 t) (stateOf acc)) (sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) _ _ (iblk m c 0 t) (iblk m c 1 t) (iblk m c 2 t) (stateOf acc))⟩

/-- The last point's. -/
theorem stC (t : Fin cfg0.N) (acc) (h0 : ¬t.val % 25 = 0) (h1 : t.val % 25 = 24) :
    (stAt0 m c t.val t.isLt acc).1 = block (iblk m c 0 t) (iblk m c 1 t) (iblk m c 2 t)
    ∧ (stAt0 m c t.val t.isLt acc).2.1 = k0_pay4 (pointUpd (BitVec.ofNat 32 ((grid0.coords t) 0)) (iblk m c 0 t) (iblk m c 1 t) (iblk m c 2 t) (stateOf acc)).1
        (pointUpd (BitVec.ofNat 32 ((grid0.coords t) 0)) (iblk m c 0 t) (iblk m c 1 t) (iblk m c 2 t) (stateOf acc)).2.2
    ∧ (stAt0 m c t.val t.isLt acc).2.2.1 = k0_pay5 (pointUpd (BitVec.ofNat 32 ((grid0.coords t) 0)) (iblk m c 0 t) (iblk m c 1 t) (iblk m c 2 t) (stateOf acc)).1
        (pointUpd (BitVec.ofNat 32 ((grid0.coords t) 0)) (iblk m c 0 t) (iblk m c 1 t) (iblk m c 2 t) (stateOf acc)).2.1
        (pointUpd (BitVec.ofNat 32 ((grid0.coords t) 0)) (iblk m c 0 t) (iblk m c 1 t) (iblk m c 2 t) (stateOf acc)).2.2
    ∧ (stAt0 m c t.val t.isLt acc).2.2.2.1 = k0_pay3 (pointUpd (BitVec.ofNat 32 ((grid0.coords t) 0)) (iblk m c 0 t) (iblk m c 1 t) (iblk m c 2 t) (stateOf acc)).1 := by
  rw [stAt0_C m c t acc h0 h1]
  dsimp only
  exact ⟨out_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) _ _ (iblk m c 0 t) (iblk m c 1 t) (iblk m c 2 t) (stateOf acc), out_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) _ _ (iblk m c 0 t) (iblk m c 1 t) (iblk m c 2 t) (stateOf acc), out_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) _ _ (iblk m c 0 t) (iblk m c 1 t) (iblk m c 2 t) (stateOf acc), out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) _ _ (iblk m c 0 t) (iblk m c 1 t) (iblk m c 2 t) (stateOf acc)⟩

/-- Every point leaves its logits block. -/
theorem block_of (n : ℕ) (hn : n < cfg0.N) : (outsAt0 m c n hn).1 = block (iblk m c 0 ⟨n, hn⟩) (iblk m c 1 ⟨n, hn⟩) (iblk m c 2 ⟨n, hn⟩) := by
  have h25 : n < 25 := lt_of_lt_of_eq hn N_0
  cases n with
  | zero => rw [outsAt0_zero]; exact (stA m c ⟨0, hn⟩ junk0 (Nat.zero_mod 25) (by show ¬0 % 25 = 24; omega)).1
  | succ n =>
    rw [outsAt0_succ]
    by_cases h : (n + 1) % 25 = 24
    · exact (stC m c ⟨n + 1, hn⟩ _ (by show ¬(n + 1) % 25 = 0; omega) h).1
    · exact (stB m c ⟨n + 1, hn⟩ _ (by show ¬(n + 1) % 25 = 0; omega) h).1

/-- After point `n`, before the last, every lane has walked `10 (n + 1)` positions. -/
theorem state_of (r : Fin 200) (l : Fin 128) : ∀ (n : ℕ) (hn : n < cfg0.N), n < 24 →
    lane (stateOf (outsAt0 m c n hn)) r l = laneWalk (L m c r) l.val (10 * (n + 1))
  | 0, hn, _ => by
    rw [outsAt0_zero, (stA m c ⟨0, hn⟩ junk0 (Nat.zero_mod 25) (by show ¬0 % 25 = 24; omega)).2]
    exact point_lane m c ⟨0, hn⟩ _ r l (start_lane _ r l)
  | n + 1, hn, h => by
    rw [outsAt0_succ, (stB m c ⟨n + 1, hn⟩ _ (by show ¬(n + 1) % 25 = 0; omega) (by show ¬(n + 1) % 25 = 24; omega)).2]
    exact point_lane m c ⟨n + 1, hn⟩ _ r l (state_of r l n (by omega) (by omega))

/-- The state after the last point, its word the three results are computed from. -/
def last : St Ideal :=
  pointUpd (BitVec.ofNat 32 ((grid0.coords (⟨24, lt_of_lt_of_eq (by decide) N_0.symm⟩ : Fin cfg0.N)) 0))
    (iblk m c 0 ⟨24, lt_of_lt_of_eq (by decide) N_0.symm⟩) (iblk m c 1 ⟨24, lt_of_lt_of_eq (by decide) N_0.symm⟩)
    (iblk m c 2 ⟨24, lt_of_lt_of_eq (by decide) N_0.symm⟩) (stateOf (outsAt0 m c 23 (lt_of_lt_of_eq (by decide) N_0.symm)))

/-- Every lane of it has walked all 250 of its positions. -/
theorem last_lane (r : Fin 200) (l : Fin 128) : lane (last m c) r l = laneWalk (L m c r) l.val 250 :=
  point_lane m c ⟨24, lt_of_lt_of_eq (by decide) N_0.symm⟩ _ r l (state_of m c r l 23 _ (by omega))

end Cert.KernelIdeal.State
-- ==== Proof.Results.lean ====
/-
  What the arrays hold after the run: the logits array holds the logit of each row and column, and the three row results
  are the last point's payloads of the state every lane of which has walked all of its 250 positions.
-/
module

public import proofs.«01_k».proof.Proof.State

@[expose] public section

noncomputable section

open Idealize.ShloMosaic Idealize.ShloMosaic.TcCoe Idealize.ShloMosaic.ValueIdx Idealize.SL.Sem

namespace Cert.KernelIdeal.State

open Cert.KernelIdeal Cert.KernelIdeal.Gen Cert.KernelIdeal.Value Cert.Logit Cert.KernelIdeal.Cases Cert.KernelIdeal.Blocks Cert.Greatest

variable (m : (ℓ : Loc nD τ sig) → Buf (Elt Ideal) ℓ) (c : Dev nD)

/-- The last point follows the state before it. -/
theorem sweep_last (hn : 24 < cfg0.N) : outsAt0 m c 24 hn = stAt0 m c 24 hn (outsAt0 m c 23 (by omega)) := outsAt0_succ m c 23 hn

theorem lt24 : 24 < cfg0.N := lt_of_lt_of_eq (by decide) N_0.symm
theorem lt23 : 23 < cfg0.N := lt_of_lt_of_eq (by decide) N_0.symm

/-- The last point's three row results, off its state. -/
theorem last_payloads : (stAt0 m c 24 lt24 (outsAt0 m c 23 lt23)).2.1 = k0_pay4 (last m c).1 (last m c).2.2
    ∧ (stAt0 m c 24 lt24 (outsAt0 m c 23 lt23)).2.2.1 = k0_pay5 (last m c).1 (last m c).2.1 (last m c).2.2
    ∧ (stAt0 m c 24 lt24 (outsAt0 m c 23 lt23)).2.2.2.1 = k0_pay3 (last m c).1 :=
  (stC m c ⟨24, lt24⟩ (outsAt0 m c 23 lt23) (by show ¬24 % 25 = 0; omega) (by show 24 % 25 = 24; omega)).2

/-- The fold over the whole grid is the last point's. -/
theorem fold_last : Pipeline.accAt (fun n h => stAt0 m c n h junk0) (stAt0 m c) 0 24 (lt_of_lt_of_eq (by decide) N_0.symm) = stAt0 m c 24 lt24 (outsAt0 m c 23 lt23) :=
  (outsAt0_sweep m c 24 lt24).symm.trans (sweep_last m c lt24)

/-- The answers, -/
theorem G4_eq : G4 m c = k0_pay4 (last m c).1 (last m c).2.2 :=
  ((G4_last m c).trans (congrArg (fun a => a.2.1) (fold_last m c))).trans (last_payloads m c).1

/-- the margins, -/
theorem G5_eq : G5 m c = k0_pay5 (last m c).1 (last m c).2.1 (last m c).2.2 :=
  ((G5_last m c).trans (congrArg (fun a => a.2.2.1) (fold_last m c))).trans (last_payloads m c).2.1

/-- and the greatest logits. -/
theorem G6_eq : G6 m c = k0_pay3 (last m c).1 :=
  ((G6_last m c).trans (congrArg (fun a => a.2.2.2.1) (fold_last m c))).trans (last_payloads m c).2.2

/-- The logits array. -/
theorem logits_at (r : Fin 200) (v : Fin 32000) : G3 m c (ix3 r (0 : Fin 1) v) = L m c r v.val := by
  have hv := v.isLt
  have hr := r.isLt
  have hp : pt3Of (ix3 r (0 : Fin 1) v) = v.val / 1280 := by
    show 25 * (r.val / 200 - 0) + 25 * (0 / 1 - 0) + 1 * (v.val / 1280 - 0) = _
    omega
  have hn : v.val / 1280 < cfg0.N := lt_of_lt_of_eq (by omega) N_0.symm
  have hl : loc3Of (ix3 r (0 : Fin 1) v) = ix3 r (0 : Fin 1) (⟨v.val % 1280, Nat.mod_lt _ (by decide)⟩ : Fin 1280) := by
    funext a; apply Fin.ext
    match a with
    | ⟨0, _⟩ => show r.val % 200 = r.val; omega
    | ⟨1, _⟩ => rfl
    | ⟨2, _⟩ => rfl
  unfold G3
  rw [dif_pos (by rw [hp]; exact hn), hl, fold0_congr m c _ _ (v.val / 1280) (by omega) hp, ← outsAt0_sweep m c _ hn, block_of, block_at]
  congr 1
  show 1280 * (v.val / 1280) + v.val % 1280 = _
  omega

end Cert.KernelIdeal.State
-- ==== Proof.Combine.lean ====
/-
  The last point's combination of the lanes: for any state, row `r` of the three results is the greatest first component,
  the least word among the lanes that attain it, and the difference to the greatest of the remaining components
  (Greatest.lean `Combined`).
-/
module

public import proofs.«01_k».proof.Proof.Results

@[expose] public section

noncomputable section

open Idealize.ShloMosaic Idealize.ShloMosaic.TcCoe Idealize.ShloMosaic.ValueIdx Idealize.SL.Sem

namespace Cert.KernelIdeal.Combine

open Cert.KernelIdeal Cert.KernelIdeal.Gen Cert.KernelIdeal.Cases Cert.KernelIdeal.State Cert.Greatest

/-- The fold of `max` from `⊥` is a greatest entry. -/
theorem fold_max {n : ℕ} (hn : 0 < n) (g : Fin n → EReal) :
    (∀ i, g i ≤ Finset.univ.fold max ⊥ g) ∧ ∃ i, g i = Finset.univ.fold max ⊥ g := by
  have hle : ∀ i, g i ≤ Finset.univ.fold max ⊥ g := fun i =>
    (Finset.le_fold_max _).mpr (Or.inr ⟨i, Finset.mem_univ _, le_rfl⟩)
  refine ⟨hle, ?_⟩
  rcases (Finset.le_fold_max (Finset.univ.fold max ⊥ g)).mp le_rfl with h | ⟨i, -, h⟩
  · exact ⟨⟨0, hn⟩, le_antisymm (hle _) (h.trans bot_le)⟩
  · exact ⟨i, le_antisymm (hle i) h⟩

/-- The fold of the signed minimum is a least word, or the word it starts from. -/
theorem fold_min {n : ℕ} (b : BitVec 32) (g : Fin n → BitVec 32) :
    (∀ i, (Finset.univ.fold IntOp.minsi b g).toInt ≤ (g i).toInt)
    ∧ (Finset.univ.fold IntOp.minsi b g = b ∨ ∃ i, g i = Finset.univ.fold IntOp.minsi b g) := by
  have key : ∀ s : Finset (Fin n), (∀ i ∈ s, (s.fold IntOp.minsi b g).toInt ≤ (g i).toInt)
      ∧ (s.fold IntOp.minsi b g = b ∨ ∃ i, g i = s.fold IntOp.minsi b g) := by
    intro s
    induction s using Finset.induction_on with
    | empty => exact ⟨fun i hi => absurd hi (Finset.notMem_empty i), Or.inl Finset.fold_empty⟩
    | insert a s ha ih =>
      rw [Finset.fold_insert ha]
      obtain ⟨h1, h2⟩ := ih
      have hm : ∀ x y : BitVec 32, IntOp.minsi x y = if x.slt y then x else y := fun _ _ => rfl
      rw [hm]
      by_cases h : (g a).slt (s.fold IntOp.minsi b g) = true
      · rw [if_pos h]
        refine ⟨fun i hi => ?_, Or.inr ⟨a, rfl⟩⟩
        rcases Finset.mem_insert.mp hi with rfl | hi
        · exact le_rfl
        · have := h1 i hi
          simp only [BitVec.slt, decide_eq_true_eq] at h
          omega
      · rw [if_neg h]
        refine ⟨fun i hi => ?_, h2⟩
        rcases Finset.mem_insert.mp hi with rfl | hi
        · simp only [BitVec.slt, decide_eq_true_eq] at h
          omega
        · exact h1 i hi
  exact ⟨fun i => (key Finset.univ).1 i (Finset.mem_univ _), (key Finset.univ).2⟩

theorem lift_eq (r : Fin 200) (l : Fin 128) : (reduces_S128x200_S200).lift (ix1 r) l = ix2 l r := by
  funext a; apply Fin.ext
  match a with
  | ⟨0, _⟩ => rfl
  | ⟨1, _⟩ => rfl

theorem row_eq {α : Type} (x : S200.Idx → α) (r : Fin 200) : shapeCast S1x200 x shapeCasts_S200_S1x200 (ix2 (0 : Fin 1) r) = x (ix1 r) :=
  shapeCast_apply _ _ _ _ (by rw [Shape.rowMajor_val_one, Shape.rowMajor_val_two]; simp [ix1, ix2])

theorem spread_eq {α : Type} (x : S1x200.Idx → α) (r : Fin 200) (l : Fin 128) :
    broadcastTo S128x200 x broadcasts_S1x200_S128x200 (ix2 l r) = x (ix2 (0 : Fin 1) r) :=
  broadcastTo_apply _ _ _ _ (by intro b; fin_cases b <;> rfl)

theorem trans_eq {α : Type} (x : S200x128.Idx → α) (r : Fin 200) (l : Fin 128) :
    transpose S128x200 [1, 0] x transposes_S200x128_p1_0_S128x200 (ix2 l r) = x (ix2 r l) :=
  transpose_apply _ _ _ _ _ (by intro b; fin_cases b <;> rfl)

theorem max_row (x : FVec Ideal S128x200 .f32) (r : Fin 200) :
    shapeCast S1x200 (multiReduction .maximumf [0] S200 x 0xFF800000#32 reduces_S128x200_S200 (.inl rfl) rfl) shapeCasts_S200_S1x200 (ix2 (0 : Fin 1) r)
      = (Finset.univ : Finset (Fin 128)).fold max ⊥ (fun l => x (ix2 l r)) := by
  have hb : Ideal.ofBits .f32 0xFF800000#32 = ⊥ := by simp [Ideal.ofBits, Ideal.ieee]
  refine (row_eq _ r).trans ((Ideal.multiReduction_maximumf_single x _ _ _ _ (ix1 r)).trans ?_)
  show (Finset.univ : Finset (Fin 128)).fold max (Ideal.ofBits .f32 0xFF800000#32) _ = _
  rw [hb]
  exact congrArg (fun g => (Finset.univ : Finset (Fin 128)).fold max ⊥ g) (funext fun l => congrArg x (lift_eq r l))

theorem min_row (x : IVec S128x200 32) (r : Fin 200) :
    shapeCast S1x200 (multiReductionI .minsi [0] S200 x 2147483647#32 reduces_S128x200_S200 rfl) shapeCasts_S200_S1x200 (ix2 (0 : Fin 1) r)
      = (Finset.univ : Finset (Fin 128)).fold IntOp.minsi 2147483647#32 (fun l => x (ix2 l r)) := by
  refine (row_eq _ r).trans ((multiReductionI_eq_fold .minsi x _ _ _ (ix1 r)).trans ?_)
  refine ((reduces_S128x200_S200).fold_filter_drop_single IntOp.minsi 2147483647#32 x (ix1 r)).trans ?_
  exact congrArg (fun g => (Finset.univ : Finset (Fin 128)).fold IntOp.minsi 2147483647#32 g) (funext fun l => congrArg x (lift_eq r l))

variable (st : St Ideal) (r : Fin 200)

theorem top_eq : k0_pay3 st.1 (ix2 (0 : Fin 1) r) = (Finset.univ : Finset (Fin 128)).fold max ⊥ (fun l => st.1 (ix2 r l)) := by
  refine (max_row _ r).trans ?_
  exact congrArg (fun g => (Finset.univ : Finset (Fin 128)).fold max ⊥ g) (funext fun l => trans_eq st.1 r l)

theorem tok_eq : k0_pay4 st.1 st.2.2 (ix2 (0 : Fin 1) r) = (Finset.univ : Finset (Fin 128)).fold IntOp.minsi 2147483647#32
    (fun l => if st.1 (ix2 r l) = k0_pay3 st.1 (ix2 (0 : Fin 1) r) then st.2.2 (ix2 r l) else 2147483647#32) := by
  refine (min_row _ r).trans ?_
  refine congrArg (fun g => (Finset.univ : Finset (Fin 128)).fold IntOp.minsi 2147483647#32 g) (funext fun l => ?_)
  rw [select_apply, cmpf_apply, Ideal.cmpf_def, spread_eq]
  unfold k0_pay1 k0_pay2
  rw [trans_eq, trans_eq]
  unfold Ideal.cmp Scalar.select
  by_cases h : st.1 (ix2 r l) = k0_pay3 st.1 (ix2 (0 : Fin 1) r) <;> simp [h, broadcast]

/-- The greatest of what is left without the answer. -/
def sec : EReal := (Finset.univ : Finset (Fin 128)).fold max ⊥
  (fun l => if st.2.2 (ix2 r l) = k0_pay4 st.1 st.2.2 (ix2 (0 : Fin 1) r) then st.2.1 (ix2 r l) else st.1 (ix2 r l))

theorem margin_eq : k0_pay5 st.1 st.2.1 st.2.2 (ix2 (0 : Fin 1) r) = k0_pay3 st.1 (ix2 (0 : Fin 1) r) - sec st r := by
  have h : ∀ y : FVec Ideal S1x200 .f32, y (ix2 (0 : Fin 1) r) = sec st r →
      subf (k0_pay3 st.1) y (ix2 (0 : Fin 1) r) = k0_pay3 st.1 (ix2 (0 : Fin 1) r) - sec st r := by
    intro y hy
    rw [← hy]
    rfl
  refine h _ ((max_row _ r).trans ?_)
  unfold sec
  refine congrArg (fun g => (Finset.univ : Finset (Fin 128)).fold max ⊥ g) (funext fun l => ?_)
  rw [select_apply, trans_eq]
  show Scalar.select (IntOp.cmpi .eq _ _) _ _ = _
  rw [spread_eq]
  unfold k0_pay1 k0_pay2
  rw [trans_eq, trans_eq]
  unfold IntOp.cmpi Scalar.select
  by_cases h : st.2.2 (ix2 r l) = k0_pay4 st.1 st.2.2 (ix2 (0 : Fin 1) r)
  · simp [h]
  · have hb : (st.2.2 (ix2 r l) == k0_pay4 st.1 st.2.2 (ix2 (0 : Fin 1) r)) = false := beq_eq_false_iff_ne.mpr h
    rw [hb, if_neg h]
    rfl

/-- The row's three values are the lanes' combination. -/
theorem combined (a : ℕ → EReal × EReal × BitVec 32) (ha : ∀ l : Fin 128, lane st r l = a l.val) :
    Combined a (k0_pay3 st.1 (ix2 (0 : Fin 1) r)) (k0_pay4 st.1 st.2.2 (ix2 (0 : Fin 1) r)) (sec st r) := by
  have h1 : ∀ l : Fin 128, (a l.val).1 = st.1 (ix2 r l) := fun l => (congrArg (fun p => p.1) (ha l)).symm
  have h2 : ∀ l : Fin 128, (a l.val).2.1 = st.2.1 (ix2 r l) := fun l => (congrArg (fun p => p.2.1) (ha l)).symm
  have h3 : ∀ l : Fin 128, (a l.val).2.2 = st.2.2 (ix2 r l) := fun l => (congrArg (fun p => p.2.2) (ha l)).symm
  have ht := fold_max (by decide) (fun l : Fin 128 => st.1 (ix2 r l))
  rw [← top_eq] at ht
  have hk := fold_min 2147483647#32 (fun l : Fin 128 => if st.1 (ix2 r l) = k0_pay3 st.1 (ix2 (0 : Fin 1) r) then st.2.2 (ix2 r l) else 2147483647#32)
  rw [← tok_eq] at hk
  have hs : (∀ l : Fin 128, _ ≤ sec st r) ∧ ∃ l : Fin 128, _ = sec st r := fold_max (by decide) (fun l : Fin 128 => if st.2.2 (ix2 r l) = k0_pay4 st.1 st.2.2 (ix2 (0 : Fin 1) r) then st.2.1 (ix2 r l) else st.1 (ix2 r l))
  generalize k0_pay3 st.1 (ix2 (0 : Fin 1) r) = top at ht hk ⊢
  generalize k0_pay4 st.1 st.2.2 (ix2 (0 : Fin 1) r) = tok at hk hs ⊢
  generalize sec st r = se at hs ⊢
  refine ⟨fun l hl => (h1 ⟨l, hl⟩).trans_le (ht.1 ⟨l, hl⟩), ?_, fun l hl e => ?_, ?_, fun l hl => ?_, ?_⟩
  · obtain ⟨l, e⟩ := ht.2
    exact ⟨l.val, l.isLt, (h1 l).trans e⟩
  · have := hk.1 ⟨l, hl⟩
    rw [if_pos ((h1 ⟨l, hl⟩).symm.trans e)] at this
    rw [h3 ⟨l, hl⟩]
    exact this
  · obtain ⟨l₀, e₀⟩ := ht.2
    have hmax : tok = 2147483647#32 → ∃ l, l < 128 ∧ (a l).1 = top ∧ (a l).2.2 = tok := by
      intro e
      refine ⟨l₀.val, l₀.isLt, (h1 l₀).trans e₀, ?_⟩
      have := hk.1 l₀
      rw [if_pos e₀, e] at this
      rw [h3 l₀, e]
      apply BitVec.eq_of_toInt_eq
      have hlt := BitVec.toInt_lt (x := st.2.2 (ix2 r l₀))
      have hc : (2147483647#32 : BitVec 32).toInt = 2147483647 := by decide
      omega
    rcases hk.2 with e | ⟨l, e⟩
    · exact hmax e
    · by_cases h : st.1 (ix2 r l) = top
      · rw [if_pos h] at e
        exact ⟨l.val, l.isLt, (h1 l).trans h, (h3 l).trans e⟩
      · rw [if_neg h] at e
        exact hmax e.symm
  · have := hs.1 ⟨l, hl⟩
    rw [h1 ⟨l, hl⟩, h2 ⟨l, hl⟩, h3 ⟨l, hl⟩]
    exact this
  · obtain ⟨l, e⟩ := hs.2
    refine ⟨l.val, l.isLt, ?_⟩
    rw [h1 l, h2 l, h3 l]
    exact e

end Cert.KernelIdeal.Combine
-- ==== Proof.RefRun.lean ====
/-
  The run of the reference: its host operations as eleven straight lines (the two reshapes of the inputs, one line per
  nibble, the argmax of the logits and their two greatest), run one after the other. `run_raw` is the whole run: every buffer ends
  at the operations' results folded over what it held at launch.
-/
module

public import proofs.«01_k».proof.ReferenceIdeal
public import proofs.«01_k».proof.Proof.Gen.ReferenceIdeal
public import Idealize.ShloMosaic.Lib.StableHlo.Run
public import Idealize.ShloMosaic.Lib.Pipeline.Frame

@[expose] public section

set_option maxRecDepth 20000

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The scales broadcast and the activations split in words. -/
abbrev opsA : List (HloOp τ sig (Elt F)) :=
  [ unary main_arg2 main_v0 (broadcastInDim S40x1x32000 ![0, 2] bcast_S40x32000_S40x1x32000_0_2 : (⟨S40x32000, .bf16⟩ : BufTy).Contents (Elt F) → (⟨S40x1x32000, .bf16⟩ : BufTy).Contents (Elt F)),
    reshape main_arg0 main_v1 (rfl : (.bf16 : EltTy) = .bf16) shapeCasts_S200x1x5120_S200x1x640x8 ]

/-- The term of nibble 0. -/
abbrev opsT0 : List (HloOp τ sig (Elt F)) :=
  [ nullary main_c (constantI S_ 32 0#32),
    unary main_c main_v2 (broadcastInDim S640x32000 ![] bcast_S_S640x32000 : (⟨S_, .i32⟩ : BufTy).Contents (Elt F) → (⟨S640x32000, .i32⟩ : BufTy).Contents (Elt F)),
    binary main_arg1 main_v2 main_v3 (Host.shrsi : (⟨S640x32000, .i32⟩ : BufTy).Contents (Elt F) → (⟨S640x32000, .i32⟩ : BufTy).Contents (Elt F) → (⟨S640x32000, .i32⟩ : BufTy).Contents (Elt F)),
    nullary main_c_0 (constantI S_ 32 15#32),
    unary main_c_0 main_v4 (broadcastInDim S640x32000 ![] bcast_S_S640x32000 : (⟨S_, .i32⟩ : BufTy).Contents (Elt F) → (⟨S640x32000, .i32⟩ : BufTy).Contents (Elt F)),
    binary main_v3 main_v4 main_v5 (andi : (⟨S640x32000, .i32⟩ : BufTy).Contents (Elt F) → (⟨S640x32000, .i32⟩ : BufTy).Contents (Elt F) → (⟨S640x32000, .i32⟩ : BufTy).Contents (Elt F)),
    unary main_v5 main_v6 (sitofp .bf16 : (⟨S640x32000, .i32⟩ : BufTy).Contents (Elt F) → (⟨S640x32000, .bf16⟩ : BufTy).Contents (Elt F)),
    nullary main_cst (constant S_ .bf16 0x4100#16),
    unary main_cst main_v7 (broadcastInDim S640x32000 ![] bcast_S_S640x32000 : (⟨S_, .bf16⟩ : BufTy).Contents (Elt F) → (⟨S640x32000, .bf16⟩ : BufTy).Contents (Elt F)),
    binary main_v6 main_v7 main_v8 (subf : (⟨S640x32000, .bf16⟩ : BufTy).Contents (Elt F) → (⟨S640x32000, .bf16⟩ : BufTy).Contents (Elt F) → (⟨S640x32000, .bf16⟩ : BufTy).Contents (Elt F)),
    reshape main_v8 main_v9 (rfl : (.bf16 : EltTy) = .bf16) shapeCasts_S640x32000_S40x16x32000,
    unary main_v0 main_v10 (broadcastInDim S40x16x32000 ![0, 1, 2] bcast_S40x1x32000_S40x16x32000_0_1_2 : (⟨S40x1x32000, .bf16⟩ : BufTy).Contents (Elt F) → (⟨S40x16x32000, .bf16⟩ : BufTy).Contents (Elt F)),
    binary main_v9 main_v10 main_v11 (mulf : (⟨S40x16x32000, .bf16⟩ : BufTy).Contents (Elt F) → (⟨S40x16x32000, .bf16⟩ : BufTy).Contents (Elt F) → (⟨S40x16x32000, .bf16⟩ : BufTy).Contents (Elt F)),
    unary main_v1 main_v12 ((extractStridedSlice S200x1x640x1 ![0, 0, 0, 0] · slices_S200x1x640x8_S200x1x640x1_0_0_0_0) : (⟨S200x1x640x8, .bf16⟩ : BufTy).Contents (Elt F) → (⟨S200x1x640x1, .bf16⟩ : BufTy).Contents (Elt F)),
    reshape main_v12 main_v13 (rfl : (.bf16 : EltTy) = .bf16) shapeCasts_S200x1x640x1_S200x1x640,
    reshape main_v13 main_v14 (rfl : (.bf16 : EltTy) = .bf16) shapeCasts_S200x1x640_S200x1x40x16,
    binary main_v14 main_v11 main_v15 ((fun l r => Host.dotGeneral dot_S200x1x40x16_S40x16x32000_S200x1x32000_23_01_01_2_n_n none l r) : (⟨S200x1x40x16, .bf16⟩ : BufTy).Contents (Elt F) → (⟨S40x16x32000, .bf16⟩ : BufTy).Contents (Elt F) → (⟨S200x1x32000, .f32⟩ : BufTy).Contents (Elt F)) ]

/-- The term of nibble 1. -/
abbrev opsT1 : List (HloOp τ sig (Elt F)) :=
  [ nullary main_c_1 (constantI S_ 32 4#32),
    unary main_c_1 main_v16 (broadcastInDim S640x32000 ![] bcast_S_S640x32000 : (⟨S_, .i32⟩ : BufTy).Contents (Elt F) → (⟨S640x32000, .i32⟩ : BufTy).Contents (Elt F)),
    binary main_arg1 main_v16 main_v17 (Host.shrsi : (⟨S640x32000, .i32⟩ : BufTy).Contents (Elt F) → (⟨S640x32000, .i32⟩ : BufTy).Contents (Elt F) → (⟨S640x32000, .i32⟩ : BufTy).Contents (Elt F)),
    nullary main_c_2 (constantI S_ 32 15#32),
    unary main_c_2 main_v18 (broadcastInDim S640x32000 ![] bcast_S_S640x32000 : (⟨S_, .i32⟩ : BufTy).Contents (Elt F) → (⟨S640x32000, .i32⟩ : BufTy).Contents (Elt F)),
    binary main_v17 main_v18 main_v19 (andi : (⟨S640x32000, .i32⟩ : BufTy).Contents (Elt F) → (⟨S640x32000, .i32⟩ : BufTy).Contents (Elt F) → (⟨S640x32000, .i32⟩ : BufTy).Contents (Elt F)),
    unary main_v19 main_v20 (sitofp .bf16 : (⟨S640x32000, .i32⟩ : BufTy).Contents (Elt F) → (⟨S640x32000, .bf16⟩ : BufTy).Contents (Elt F)),
    nullary main_cst_3 (constant S_ .bf16 0x4100#16),
    unary main_cst_3 main_v21 (broadcastInDim S640x32000 ![] bcast_S_S640x32000 : (⟨S_, .bf16⟩ : BufTy).Contents (Elt F) → (⟨S640x32000, .bf16⟩ : BufTy).Contents (Elt F)),
    binary main_v20 main_v21 main_v22 (subf : (⟨S640x32000, .bf16⟩ : BufTy).Contents (Elt F) → (⟨S640x32000, .bf16⟩ : BufTy).Contents (Elt F) → (⟨S640x32000, .bf16⟩ : BufTy).Contents (Elt F)),
    reshape main_v22 main_v23 (rfl : (.bf16 : EltTy) = .bf16) shapeCasts_S640x32000_S40x16x32000,
    unary main_v0 main_v24 (broadcastInDim S40x16x32000 ![0, 1, 2] bcast_S40x1x32000_S40x16x32000_0_1_2 : (⟨S40x1x32000, .bf16⟩ : BufTy).Contents (Elt F) → (⟨S40x16x32000, .bf16⟩ : BufTy).Contents (Elt F)),
    binary main_v23 main_v24 main_v25 (mulf : (⟨S40x16x32000, .bf16⟩ : BufTy).Contents (Elt F) → (⟨S40x16x32000, .bf16⟩ : BufTy).Contents (Elt F) → (⟨S40x16x32000, .bf16⟩ : BufTy).Contents (Elt F)),
    unary main_v1 main_v26 ((extractStridedSlice S200x1x640x1 ![0, 0, 0, 1] · slices_S200x1x640x8_S200x1x640x1_0_0_0_1) : (⟨S200x1x640x8, .bf16⟩ : BufTy).Contents (Elt F) → (⟨S200x1x640x1, .bf16⟩ : BufTy).Contents (Elt F)),
    reshape main_v26 main_v27 (rfl : (.bf16 : EltTy) = .bf16) shapeCasts_S200x1x640x1_S200x1x640,
    reshape main_v27 main_v28 (rfl : (.bf16 : EltTy) = .bf16) shapeCasts_S200x1x640_S200x1x40x16,
    binary main_v28 main_v25 main_v29 ((fun l r => Host.dotGeneral dot_S200x1x40x16_S40x16x32000_S200x1x32000_23_01_01_2_n_n none l r) : (⟨S200x1x40x16, .bf16⟩ : BufTy).Contents (Elt F) → (⟨S40x16x32000, .bf16⟩ : BufTy).Contents (Elt F) → (⟨S200x1x32000, .f32⟩ : BufTy).Contents (Elt F)),
    binary main_v15 main_v29 main_v30 (addf : (⟨S200x1x32000, .f32⟩ : BufTy).Contents (Elt F) → (⟨S200x1x32000, .f32⟩ : BufTy).Contents (Elt F) → (⟨S200x1x32000, .f32⟩ : BufTy).Contents (Elt F)) ]

/-- The term of nibble 2. -/
abbrev opsT2 : List (HloOp τ sig (Elt F)) :=
  [ nullary main_c_4 (constantI S_ 32 8#32),
    unary main_c_4 main_v31 (broadcastInDim S640x32000 ![] bcast_S_S640x32000 : (⟨S_, .i32⟩ : BufTy).Contents (Elt F) → (⟨S640x32000, .i32⟩ : BufTy).Contents (Elt F)),
    binary main_arg1 main_v31 main_v32 (Host.shrsi : (⟨S640x32000, .i32⟩ : BufTy).Contents (Elt F) → (⟨S640x32000, .i32⟩ : BufTy).Contents (Elt F) → (⟨S640x32000, .i32⟩ : BufTy).Contents (Elt F)),
    nullary main_c_5 (constantI S_ 32 15#32),
    unary main_c_5 main_v33 (broadcastInDim S640x32000 ![] bcast_S_S640x32000 : (⟨S_, .i32⟩ : BufTy).Contents (Elt F) → (⟨S640x32000, .i32⟩ : BufTy).Contents (Elt F)),
    binary main_v32 main_v33 main_v34 (andi : (⟨S640x32000, .i32⟩ : BufTy).Contents (Elt F) → (⟨S640x32000, .i32⟩ : BufTy).Contents (Elt F) → (⟨S640x32000, .i32⟩ : BufTy).Contents (Elt F)),
    unary main_v34 main_v35 (sitofp .bf16 : (⟨S640x32000, .i32⟩ : BufTy).Contents (Elt F) → (⟨S640x32000, .bf16⟩ : BufTy).Contents (Elt F)),
    nullary main_cst_6 (constant S_ .bf16 0x4100#16),
    unary main_cst_6 main_v36 (broadcastInDim S640x32000 ![] bcast_S_S640x32000 : (⟨S_, .bf16⟩ : BufTy).Contents (Elt F) → (⟨S640x32000, .bf16⟩ : BufTy).Contents (Elt F)),
    binary main_v35 main_v36 main_v37 (subf : (⟨S640x32000, .bf16⟩ : BufTy).Contents (Elt F) → (⟨S640x32000, .bf16⟩ : BufTy).Contents (Elt F) → (⟨S640x32000, .bf16⟩ : BufTy).Contents (Elt F)),
    reshape main_v37 main_v38 (rfl : (.bf16 : EltTy) = .bf16) shapeCasts_S640x32000_S40x16x32000,
    unary main_v0 main_v39 (broadcastInDim S40x16x32000 ![0, 1, 2] bcast_S40x1x32000_S40x16x32000_0_1_2 : (⟨S40x1x32000, .bf16⟩ : BufTy).Contents (Elt F) → (⟨S40x16x32000, .bf16⟩ : BufTy).Contents (Elt F)),
    binary main_v38 main_v39 main_v40 (mulf : (⟨S40x16x32000, .bf16⟩ : BufTy).Contents (Elt F) → (⟨S40x16x32000, .bf16⟩ : BufTy).Contents (Elt F) → (⟨S40x16x32000, .bf16⟩ : BufTy).Contents (Elt F)),
    unary main_v1 main_v41 ((extractStridedSlice S200x1x640x1 ![0, 0, 0, 2] · slices_S200x1x640x8_S200x1x640x1_0_0_0_2) : (⟨S200x1x640x8, .bf16⟩ : BufTy).Contents (Elt F) → (⟨S200x1x640x1, .bf16⟩ : BufTy).Contents (Elt F)),
    reshape main_v41 main_v42 (rfl : (.bf16 : EltTy) = .bf16) shapeCasts_S200x1x640x1_S200x1x640,
    reshape main_v42 main_v43 (rfl : (.bf16 : EltTy) = .bf16) shapeCasts_S200x1x640_S200x1x40x16,
    binary main_v43 main_v40 main_v44 ((fun l r => Host.dotGeneral dot_S200x1x40x16_S40x16x32000_S200x1x32000_23_01_01_2_n_n none l r) : (⟨S200x1x40x16, .bf16⟩ : BufTy).Contents (Elt F) → (⟨S40x16x32000, .bf16⟩ : BufTy).Contents (Elt F) → (⟨S200x1x32000, .f32⟩ : BufTy).Contents (Elt F)),
    binary main_v30 main_v44 main_v45 (addf : (⟨S200x1x32000, .f32⟩ : BufTy).Contents (Elt F) → (⟨S200x1x32000, .f32⟩ : BufTy).Contents (Elt F) → (⟨S200x1x32000, .f32⟩ : BufTy).Contents (Elt F)) ]

/-- The term of nibble 3. -/
abbrev opsT3 : List (HloOp τ sig (Elt F)) :=
  [ nullary main_c_7 (constantI S_ 32 12#32),
    unary main_c_7 main_v46 (broadcastInDim S640x32000 ![] bcast_S_S640x32000 : (⟨S_, .i32⟩ : BufTy).Contents (Elt F) → (⟨S640x32000, .i32⟩ : BufTy).Contents (Elt F)),
    binary main_arg1 main_v46 main_v47 (Host.shrsi : (⟨S640x32000, .i32⟩ : BufTy).Contents (Elt F) → (⟨S640x32000, .i32⟩ : BufTy).Contents (Elt F) → (⟨S640x32000, .i32⟩ : BufTy).Contents (Elt F)),
    nullary main_c_8 (constantI S_ 32 15#32),
    unary main_c_8 main_v48 (broadcastInDim S640x32000 ![] bcast_S_S640x32000 : (⟨S_, .i32⟩ : BufTy).Contents (Elt F) → (⟨S640x32000, .i32⟩ : BufTy).Contents (Elt F)),
    binary main_v47 main_v48 main_v49 (andi : (⟨S640x32000, .i32⟩ : BufTy).Contents (Elt F) → (⟨S640x32000, .i32⟩ : BufTy).Contents (Elt F) → (⟨S640x32000, .i32⟩ : BufTy).Contents (Elt F)),
    unary main_v49 main_v50 (sitofp .bf16 : (⟨S640x32000, .i32⟩ : BufTy).Contents (Elt F) → (⟨S640x32000, .bf16⟩ : BufTy).Contents (Elt F)),
    nullary main_cst_9 (constant S_ .bf16 0x4100#16),
    unary main_cst_9 main_v51 (broadcastInDim S640x32000 ![] bcast_S_S640x32000 : (⟨S_, .bf16⟩ : BufTy).Contents (Elt F) → (⟨S640x32000, .bf16⟩ : BufTy).Contents (Elt F)),
    binary main_v50 main_v51 main_v52 (subf : (⟨S640x32000, .bf16⟩ : BufTy).Contents (Elt F) → (⟨S640x32000, .bf16⟩ : BufTy).Contents (Elt F) → (⟨S640x32000, .bf16⟩ : BufTy).Contents (Elt F)),
    reshape main_v52 main_v53 (rfl : (.bf16 : EltTy) = .bf16) shapeCasts_S640x32000_S40x16x32000,
    unary main_v0 main_v54 (broadcastInDim S40x16x32000 ![0, 1, 2] bcast_S40x1x32000_S40x16x32000_0_1_2 : (⟨S40x1x32000, .bf16⟩ : BufTy).Contents (Elt F) → (⟨S40x16x32000, .bf16⟩ : BufTy).Contents (Elt F)),
    binary main_v53 main_v54 main_v55 (mulf : (⟨S40x16x32000, .bf16⟩ : BufTy).Contents (Elt F) → (⟨S40x16x32000, .bf16⟩ : BufTy).Contents (Elt F) → (⟨S40x16x32000, .bf16⟩ : BufTy).Contents (Elt F)),
    unary main_v1 main_v56 ((extractStridedSlice S200x1x640x1 ![0, 0, 0, 3] · slices_S200x1x640x8_S200x1x640x1_0_0_0_3) : (⟨S200x1x640x8, .bf16⟩ : BufTy).Contents (Elt F) → (⟨S200x1x640x1, .bf16⟩ : BufTy).Contents (Elt F)),
    reshape main_v56 main_v57 (rfl : (.bf16 : EltTy) = .bf16) shapeCasts_S200x1x640x1_S200x1x640,
    reshape main_v57 main_v58 (rfl : (.bf16 : EltTy) = .bf16) shapeCasts_S200x1x640_S200x1x40x16,
    binary main_v58 main_v55 main_v59 ((fun l r => Host.dotGeneral dot_S200x1x40x16_S40x16x32000_S200x1x32000_23_01_01_2_n_n none l r) : (⟨S200x1x40x16, .bf16⟩ : BufTy).Contents (Elt F) → (⟨S40x16x32000, .bf16⟩ : BufTy).Contents (Elt F) → (⟨S200x1x32000, .f32⟩ : BufTy).Contents (Elt F)),
    binary main_v45 main_v59 main_v60 (addf : (⟨S200x1x32000, .f32⟩ : BufTy).Contents (Elt F) → (⟨S200x1x32000, .f32⟩ : BufTy).Contents (Elt F) → (⟨S200x1x32000, .f32⟩ : BufTy).Contents (Elt F)) ]

/-- The term of nibble 4. -/
abbrev opsT4 : List (HloOp τ sig (Elt F)) :=
  [ nullary main_c_10 (constantI S_ 32 16#32),
    unary main_c_10 main_v61 (broadcastInDim S640x32000 ![] bcast_S_S640x32000 : (⟨S_, .i32⟩ : BufTy).Contents (Elt F) → (⟨S640x32000, .i32⟩ : BufTy).Contents (Elt F)),
    binary main_arg1 main_v61 main_v62 (Host.shrsi : (⟨S640x32000, .i32⟩ : BufTy).Contents (Elt F) → (⟨S640x32000, .i32⟩ : BufTy).Contents (Elt F) → (⟨S640x32000, .i32⟩ : BufTy).Contents (Elt F)),
    nullary main_c_11 (constantI S_ 32 15#32),
    unary main_c_11 main_v63 (broadcastInDim S640x32000 ![] bcast_S_S640x32000 : (⟨S_, .i32⟩ : BufTy).Contents (Elt F) → (⟨S640x32000, .i32⟩ : BufTy).Contents (Elt F)),
    binary main_v62 main_v63 main_v64 (andi : (⟨S640x32000, .i32⟩ : BufTy).Contents (Elt F) → (⟨S640x32000, .i32⟩ : BufTy).Contents (Elt F) → (⟨S640x32000, .i32⟩ : BufTy).Contents (Elt F)),
    unary main_v64 main_v65 (sitofp .bf16 : (⟨S640x32000, .i32⟩ : BufTy).Contents (Elt F) → (⟨S640x32000, .bf16⟩ : BufTy).Contents (Elt F)),
    nullary main_cst_12 (constant S_ .bf16 0x4100#16),
    unary main_cst_12 main_v66 (broadcastInDim S640x32000 ![] bcast_S_S640x32000 : (⟨S_, .bf16⟩ : BufTy).Contents (Elt F) → (⟨S640x32000, .bf16⟩ : BufTy).Contents (Elt F)),
    binary main_v65 main_v66 main_v67 (subf : (⟨S640x32000, .bf16⟩ : BufTy).Contents (Elt F) → (⟨S640x32000, .bf16⟩ : BufTy).Contents (Elt F) → (⟨S640x32000, .bf16⟩ : BufTy).Contents (Elt F)),
    reshape main_v67 main_v68 (rfl : (.bf16 : EltTy) = .bf16) shapeCasts_S640x32000_S40x16x32000,
    unary main_v0 main_v69 (broadcastInDim S40x16x32000 ![0, 1, 2] bcast_S40x1x32000_S40x16x32000_0_1_2 : (⟨S40x1x32000, .bf16⟩ : BufTy).Contents (Elt F) → (⟨S40x16x32000, .bf16⟩ : BufTy).Contents (Elt F)),
    binary main_v68 main_v69 main_v70 (mulf : (⟨S40x16x32000, .bf16⟩ : BufTy).Contents (Elt F) → (⟨S40x16x32000, .bf16⟩ : BufTy).Contents (Elt F) → (⟨S40x16x32000, .bf16⟩ : BufTy).Contents (Elt F)),
    unary main_v1 main_v71 ((extractStridedSlice S200x1x640x1 ![0, 0, 0, 4] · slices_S200x1x640x8_S200x1x640x1_0_0_0_4) : (⟨S200x1x640x8, .bf16⟩ : BufTy).Contents (Elt F) → (⟨S200x1x640x1, .bf16⟩ : BufTy).Contents (Elt F)),
    reshape main_v71 main_v72 (rfl : (.bf16 : EltTy) = .bf16) shapeCasts_S200x1x640x1_S200x1x640,
    reshape main_v72 main_v73 (rfl : (.bf16 : EltTy) = .bf16) shapeCasts_S200x1x640_S200x1x40x16,
    binary main_v73 main_v70 main_v74 ((fun l r => Host.dotGeneral dot_S200x1x40x16_S40x16x32000_S200x1x32000_23_01_01_2_n_n none l r) : (⟨S200x1x40x16, .bf16⟩ : BufTy).Contents (Elt F) → (⟨S40x16x32000, .bf16⟩ : BufTy).Contents (Elt F) → (⟨S200x1x32000, .f32⟩ : BufTy).Contents (Elt F)),
    binary main_v60 main_v74 main_v75 (addf : (⟨S200x1x32000, .f32⟩ : BufTy).Contents (Elt F) → (⟨S200x1x32000, .f32⟩ : BufTy).Contents (Elt F) → (⟨S200x1x32000, .f32⟩ : BufTy).Contents (Elt F)) ]

/-- The term of nibble 5. -/
abbrev opsT5 : List (HloOp τ sig (Elt F)) :=
  [ nullary main_c_13 (constantI S_ 32 20#32),
    unary main_c_13 main_v76 (broadcastInDim S640x32000 ![] bcast_S_S640x32000 : (⟨S_, .i32⟩ : BufTy).Contents (Elt F) → (⟨S640x32000, .i32⟩ : BufTy).Contents (Elt F)),
    binary main_arg1 main_v76 main_v77 (Host.shrsi : (⟨S640x32000, .i32⟩ : BufTy).Contents (Elt F) → (⟨S640x32000, .i32⟩ : BufTy).Contents (Elt F) → (⟨S640x32000, .i32⟩ : BufTy).Contents (Elt F)),
    nullary main_c_14 (constantI S_ 32 15#32),
    unary main_c_14 main_v78 (broadcastInDim S640x32000 ![] bcast_S_S640x32000 : (⟨S_, .i32⟩ : BufTy).Contents (Elt F) → (⟨S640x32000, .i32⟩ : BufTy).Contents (Elt F)),
    binary main_v77 main_v78 main_v79 (andi : (⟨S640x32000, .i32⟩ : BufTy).Contents (Elt F) → (⟨S640x32000, .i32⟩ : BufTy).Contents (Elt F) → (⟨S640x32000, .i32⟩ : BufTy).Contents (Elt F)),
    unary main_v79 main_v80 (sitofp .bf16 : (⟨S640x32000, .i32⟩ : BufTy).Contents (Elt F) → (⟨S640x32000, .bf16⟩ : BufTy).Contents (Elt F)),
    nullary main_cst_15 (constant S_ .bf16 0x4100#16),
    unary main_cst_15 main_v81 (broadcastInDim S640x32000 ![] bcast_S_S640x32000 : (⟨S_, .bf16⟩ : BufTy).Contents (Elt F) → (⟨S640x32000, .bf16⟩ : BufTy).Contents (Elt F)),
    binary main_v80 main_v81 main_v82 (subf : (⟨S640x32000, .bf16⟩ : BufTy).Contents (Elt F) → (⟨S640x32000, .bf16⟩ : BufTy).Contents (Elt F) → (⟨S640x32000, .bf16⟩ : BufTy).Contents (Elt F)),
    reshape main_v82 main_v83 (rfl : (.bf16 : EltTy) = .bf16) shapeCasts_S640x32000_S40x16x32000,
    unary main_v0 main_v84 (broadcastInDim S40x16x32000 ![0, 1, 2] bcast_S40x1x32000_S40x16x32000_0_1_2 : (⟨S40x1x32000, .bf16⟩ : BufTy).Contents (Elt F) → (⟨S40x16x32000, .bf16⟩ : BufTy).Contents (Elt F)),
    binary main_v83 main_v84 main_v85 (mulf : (⟨S40x16x32000, .bf16⟩ : BufTy).Contents (Elt F) → (⟨S40x16x32000, .bf16⟩ : BufTy).Contents (Elt F) → (⟨S40x16x32000, .bf16⟩ : BufTy).Contents (Elt F)),
    unary main_v1 main_v86 ((extractStridedSlice S200x1x640x1 ![0, 0, 0, 5] · slices_S200x1x640x8_S200x1x640x1_0_0_0_5) : (⟨S200x1x640x8, .bf16⟩ : BufTy).Contents (Elt F) → (⟨S200x1x640x1, .bf16⟩ : BufTy).Contents (Elt F)),
    reshape main_v86 main_v87 (rfl : (.bf16 : EltTy) = .bf16) shapeCasts_S200x1x640x1_S200x1x640,
    reshape main_v87 main_v88 (rfl : (.bf16 : EltTy) = .bf16) shapeCasts_S200x1x640_S200x1x40x16,
    binary main_v88 main_v85 main_v89 ((fun l r => Host.dotGeneral dot_S200x1x40x16_S40x16x32000_S200x1x32000_23_01_01_2_n_n none l r) : (⟨S200x1x40x16, .bf16⟩ : BufTy).Contents (Elt F) → (⟨S40x16x32000, .bf16⟩ : BufTy).Contents (Elt F) → (⟨S200x1x32000, .f32⟩ : BufTy).Contents (Elt F)),
    binary main_v75 main_v89 main_v90 (addf : (⟨S200x1x32000, .f32⟩ : BufTy).Contents (Elt F) → (⟨S200x1x32000, .f32⟩ : BufTy).Contents (Elt F) → (⟨S200x1x32000, .f32⟩ : BufTy).Contents (Elt F)) ]

/-- The term of nibble 6. -/
abbrev opsT6 : List (HloOp τ sig (Elt F)) :=
  [ nullary main_c_16 (constantI S_ 32 24#32),
    unary main_c_16 main_v91 (broadcastInDim S640x32000 ![] bcast_S_S640x32000 : (⟨S_, .i32⟩ : BufTy).Contents (Elt F) → (⟨S640x32000, .i32⟩ : BufTy).Contents (Elt F)),
    binary main_arg1 main_v91 main_v92 (Host.shrsi : (⟨S640x32000, .i32⟩ : BufTy).Contents (Elt F) → (⟨S640x32000, .i32⟩ : BufTy).Contents (Elt F) → (⟨S640x32000, .i32⟩ : BufTy).Contents (Elt F)),
    nullary main_c_17 (constantI S_ 32 15#32),
    unary main_c_17 main_v93 (broadcastInDim S640x32000 ![] bcast_S_S640x32000 : (⟨S_, .i32⟩ : BufTy).Contents (Elt F) → (⟨S640x32000, .i32⟩ : BufTy).Contents (Elt F)),
    binary main_v92 main_v93 main_v94 (andi : (⟨S640x32000, .i32⟩ : BufTy).Contents (Elt F) → (⟨S640x32000, .i32⟩ : BufTy).Contents (Elt F) → (⟨S640x32000, .i32⟩ : BufTy).Contents (Elt F)),
    unary main_v94 main_v95 (sitofp .bf16 : (⟨S640x32000, .i32⟩ : BufTy).Contents (Elt F) → (⟨S640x32000, .bf16⟩ : BufTy).Contents (Elt F)),
    nullary main_cst_18 (constant S_ .bf16 0x4100#16),
    unary main_cst_18 main_v96 (broadcastInDim S640x32000 ![] bcast_S_S640x32000 : (⟨S_, .bf16⟩ : BufTy).Contents (Elt F) → (⟨S640x32000, .bf16⟩ : BufTy).Contents (Elt F)),
    binary main_v95 main_v96 main_v97 (subf : (⟨S640x32000, .bf16⟩ : BufTy).Contents (Elt F) → (⟨S640x32000, .bf16⟩ : BufTy).Contents (Elt F) → (⟨S640x32000, .bf16⟩ : BufTy).Contents (Elt F)),
    reshape main_v97 main_v98 (rfl : (.bf16 : EltTy) = .bf16) shapeCasts_S640x32000_S40x16x32000,
    unary main_v0 main_v99 (broadcastInDim S40x16x32000 ![0, 1, 2] bcast_S40x1x32000_S40x16x32000_0_1_2 : (⟨S40x1x32000, .bf16⟩ : BufTy).Contents (Elt F) → (⟨S40x16x32000, .bf16⟩ : BufTy).Contents (Elt F)),
    binary main_v98 main_v99 main_v100 (mulf : (⟨S40x16x32000, .bf16⟩ : BufTy).Contents (Elt F) → (⟨S40x16x32000, .bf16⟩ : BufTy).Contents (Elt F) → (⟨S40x16x32000, .bf16⟩ : BufTy).Contents (Elt F)),
    unary main_v1 main_v101 ((extractStridedSlice S200x1x640x1 ![0, 0, 0, 6] · slices_S200x1x640x8_S200x1x640x1_0_0_0_6) : (⟨S200x1x640x8, .bf16⟩ : BufTy).Contents (Elt F) → (⟨S200x1x640x1, .bf16⟩ : BufTy).Contents (Elt F)),
    reshape main_v101 main_v102 (rfl : (.bf16 : EltTy) = .bf16) shapeCasts_S200x1x640x1_S200x1x640,
    reshape main_v102 main_v103 (rfl : (.bf16 : EltTy) = .bf16) shapeCasts_S200x1x640_S200x1x40x16,
    binary main_v103 main_v100 main_v104 ((fun l r => Host.dotGeneral dot_S200x1x40x16_S40x16x32000_S200x1x32000_23_01_01_2_n_n none l r) : (⟨S200x1x40x16, .bf16⟩ : BufTy).Contents (Elt F) → (⟨S40x16x32000, .bf16⟩ : BufTy).Contents (Elt F) → (⟨S200x1x32000, .f32⟩ : BufTy).Contents (Elt F)),
    binary main_v90 main_v104 main_v105 (addf : (⟨S200x1x32000, .f32⟩ : BufTy).Contents (Elt F) → (⟨S200x1x32000, .f32⟩ : BufTy).Contents (Elt F) → (⟨S200x1x32000, .f32⟩ : BufTy).Contents (Elt F)) ]

/-- The term of nibble 7. -/
abbrev opsT7 : List (HloOp τ sig (Elt F)) :=
  [ nullary main_c_19 (constantI S_ 32 28#32),
    unary main_c_19 main_v106 (broadcastInDim S640x32000 ![] bcast_S_S640x32000 : (⟨S_, .i32⟩ : BufTy).Contents (Elt F) → (⟨S640x32000, .i32⟩ : BufTy).Contents (Elt F)),
    binary main_arg1 main_v106 main_v107 (Host.shrsi : (⟨S640x32000, .i32⟩ : BufTy).Contents (Elt F) → (⟨S640x32000, .i32⟩ : BufTy).Contents (Elt F) → (⟨S640x32000, .i32⟩ : BufTy).Contents (Elt F)),
    nullary main_c_20 (constantI S_ 32 15#32),
    unary main_c_20 main_v108 (broadcastInDim S640x32000 ![] bcast_S_S640x32000 : (⟨S_, .i32⟩ : BufTy).Contents (Elt F) → (⟨S640x32000, .i32⟩ : BufTy).Contents (Elt F)),
    binary main_v107 main_v108 main_v109 (andi : (⟨S640x32000, .i32⟩ : BufTy).Contents (Elt F) → (⟨S640x32000, .i32⟩ : BufTy).Contents (Elt F) → (⟨S640x32000, .i32⟩ : BufTy).Contents (Elt F)),
    unary main_v109 main_v110 (sitofp .bf16 : (⟨S640x32000, .i32⟩ : BufTy).Contents (Elt F) → (⟨S640x32000, .bf16⟩ : BufTy).Contents (Elt F)),
    nullary main_cst_21 (constant S_ .bf16 0x4100#16),
    unary main_cst_21 main_v111 (broadcastInDim S640x32000 ![] bcast_S_S640x32000 : (⟨S_, .bf16⟩ : BufTy).Contents (Elt F) → (⟨S640x32000, .bf16⟩ : BufTy).Contents (Elt F)),
    binary main_v110 main_v111 main_v112 (subf : (⟨S640x32000, .bf16⟩ : BufTy).Contents (Elt F) → (⟨S640x32000, .bf16⟩ : BufTy).Contents (Elt F) → (⟨S640x32000, .bf16⟩ : BufTy).Contents (Elt F)),
    reshape main_v112 main_v113 (rfl : (.bf16 : EltTy) = .bf16) shapeCasts_S640x32000_S40x16x32000,
    unary main_v0 main_v114 (broadcastInDim S40x16x32000 ![0, 1, 2] bcast_S40x1x32000_S40x16x32000_0_1_2 : (⟨S40x1x32000, .bf16⟩ : BufTy).Contents (Elt F) → (⟨S40x16x32000, .bf16⟩ : BufTy).Contents (Elt F)),
    binary main_v113 main_v114 main_v115 (mulf : (⟨S40x16x32000, .bf16⟩ : BufTy).Contents (Elt F) → (⟨S40x16x32000, .bf16⟩ : BufTy).Contents (Elt F) → (⟨S40x16x32000, .bf16⟩ : BufTy).Contents (Elt F)),
    unary main_v1 main_v116 ((extractStridedSlice S200x1x640x1 ![0, 0, 0, 7] · slices_S200x1x640x8_S200x1x640x1_0_0_0_7) : (⟨S200x1x640x8, .bf16⟩ : BufTy).Contents (Elt F) → (⟨S200x1x640x1, .bf16⟩ : BufTy).Contents (Elt F)),
    reshape main_v116 main_v117 (rfl : (.bf16 : EltTy) = .bf16) shapeCasts_S200x1x640x1_S200x1x640,
    reshape main_v117 main_v118 (rfl : (.bf16 : EltTy) = .bf16) shapeCasts_S200x1x640_S200x1x40x16,
    binary main_v118 main_v115 main_v119 ((fun l r => Host.dotGeneral dot_S200x1x40x16_S40x16x32000_S200x1x32000_23_01_01_2_n_n none l r) : (⟨S200x1x40x16, .bf16⟩ : BufTy).Contents (Elt F) → (⟨S40x16x32000, .bf16⟩ : BufTy).Contents (Elt F) → (⟨S200x1x32000, .f32⟩ : BufTy).Contents (Elt F)),
    binary main_v105 main_v119 main_v120 (addf : (⟨S200x1x32000, .f32⟩ : BufTy).Contents (Elt F) → (⟨S200x1x32000, .f32⟩ : BufTy).Contents (Elt F) → (⟨S200x1x32000, .f32⟩ : BufTy).Contents (Elt F)) ]

/-- The argmax. -/
abbrev opsG : List (HloOp τ sig (Elt F)) :=
  [ TRef.nullary main_call0.v0 (iotaInDim S200x1x32000 32 2),
    TRef.nullary main_call0.cst (constant S_ .f32 0xFF800000#32),
    TRef.nullary main_call0.c (constantI S_ 32 0#32),
    TRef.quaternary (.of main_v120) main_call0.v0 main_call0.cst main_call0.c main_call0.v1_0 (fun x y u v j => (Host.argReduce reducer_argmax_f32_i32 x y u v reducesTo_S200x1x32000_S200x1_d2 h_S_ j).1),
    TRef.quaternary (.of main_v120) main_call0.v0 main_call0.cst main_call0.c main_call0.v1_1 (fun x y u v j => (Host.argReduce reducer_argmax_f32_i32 x y u v reducesTo_S200x1x32000_S200x1_d2 h_S_ j).2) ]

/-- The two greatest and the results at their shapes. -/
abbrev opsR : List (HloOp τ sig (Elt F)) :=
  [ unary main_v120 main_values ((fun x => (Host.topK S200x1x2 2 (FloatOps.cmpfTotal .gt) x sliceFits_S200x1x32000_S200x1x2).1) : (⟨S200x1x32000, .f32⟩ : BufTy).Contents (Elt F) → (⟨S200x1x2, .f32⟩ : BufTy).Contents (Elt F)),
    unary main_v120 main_indices ((fun x => (Host.topK S200x1x2 2 (FloatOps.cmpfTotal .gt) x sliceFits_S200x1x32000_S200x1x2).2) : (⟨S200x1x32000, .f32⟩ : BufTy).Contents (Elt F) → (⟨S200x1x2, .i32⟩ : BufTy).Contents (Elt F)),
    unary main_values main_v122 ((extractStridedSlice S200x1x1 ![0, 0, 0] · slices_S200x1x2_S200x1x1_0_0_0) : (⟨S200x1x2, .f32⟩ : BufTy).Contents (Elt F) → (⟨S200x1x1, .f32⟩ : BufTy).Contents (Elt F)),
    reshape main_v122 main_v123 (rfl : (.f32 : EltTy) = .f32) shapeCasts_S200x1x1_S200x1,
    unary main_values main_v124 ((extractStridedSlice S200x1x1 ![0, 0, 0] · slices_S200x1x2_S200x1x1_0_0_0) : (⟨S200x1x2, .f32⟩ : BufTy).Contents (Elt F) → (⟨S200x1x1, .f32⟩ : BufTy).Contents (Elt F)),
    reshape main_v124 main_v125 (rfl : (.f32 : EltTy) = .f32) shapeCasts_S200x1x1_S200x1,
    unary main_values main_v126 ((extractStridedSlice S200x1x1 ![0, 0, 1] · slices_S200x1x2_S200x1x1_0_0_1) : (⟨S200x1x2, .f32⟩ : BufTy).Contents (Elt F) → (⟨S200x1x1, .f32⟩ : BufTy).Contents (Elt F)),
    reshape main_v126 main_v127 (rfl : (.f32 : EltTy) = .f32) shapeCasts_S200x1x1_S200x1,
    binary main_v125 main_v127 main_v128 (subf : (⟨S200x1, .f32⟩ : BufTy).Contents (Elt F) → (⟨S200x1, .f32⟩ : BufTy).Contents (Elt F) → (⟨S200x1, .f32⟩ : BufTy).Contents (Elt F)),
    reshape main_v121 main_v129 (rfl : (.i32 : EltTy) = .i32) shapeCasts_S200x1_S1x200,
    reshape main_v128 main_v130 (rfl : (.f32 : EltTy) = .f32) shapeCasts_S200x1_S1x200,
    reshape main_v123 main_v131 (rfl : (.f32 : EltTy) = .f32) shapeCasts_S200x1_S1x200 ]

/-- @main's operations, in order. -/
abbrev ops : List (HloOp τ sig (Elt F)) :=
  opsA ++ (opsT0 ++ (opsT1 ++ (opsT2 ++ (opsT3 ++ (opsT4 ++ (opsT5 ++ (opsT6 ++ (opsT7 ++ (opsG ++ opsR)))))))))

set_option maxHeartbeats 4000000 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches the TensorCore's buffers only. -/
theorem ops_sub : (ops (F := F)).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., binary_bufs_sub .., unary_bufs_sub .., reshape_bufs_sub .., reshape_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., binary_bufs_sub .., unary_bufs_sub .., reshape_bufs_sub .., reshape_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., binary_bufs_sub .., unary_bufs_sub .., reshape_bufs_sub .., reshape_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., binary_bufs_sub .., unary_bufs_sub .., reshape_bufs_sub .., reshape_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., binary_bufs_sub .., unary_bufs_sub .., reshape_bufs_sub .., reshape_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., binary_bufs_sub .., unary_bufs_sub .., reshape_bufs_sub .., reshape_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., binary_bufs_sub .., unary_bufs_sub .., reshape_bufs_sub .., reshape_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., binary_bufs_sub .., unary_bufs_sub .., reshape_bufs_sub .., reshape_bufs_sub .., binary_bufs_sub .., binary_bufs_sub .., nullary_bufs_sub .., nullary_bufs_sub .., nullary_bufs_sub .., quaternary_bufs_sub .., quaternary_bufs_sub .., unary_bufs_sub .., unary_bufs_sub .., unary_bufs_sub .., reshape_bufs_sub .., unary_bufs_sub .., reshape_bufs_sub .., unary_bufs_sub .., reshape_bufs_sub .., binary_bufs_sub .., reshape_bufs_sub .., reshape_bufs_sub .., reshape_bufs_sub ..⟩

/-- No operation writes a buffer fresh. -/
theorem ops_fresh : (ops (F := F)).Forall fun op => op.fresh = ∅ := forall_fresh_of_map rfl

/-- The run: every buffer ends at the operations' results folded over the launch contents. -/
theorem run_raw (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ op h => List.forall_iff_forall_mem.mp ops_fresh op h)

end Cert.ReferenceIdeal.Run
-- ==== Proof.RefRead.lean ====
/-
  What the reference's lines leave, for any float values: `term s o h` is the product of nibble field `s` (a shift), and
  the logits are the eight of them added in order (`logits`). The last two lines leave the argmax of the logits and the
  first and second entries of their two greatest.
-/
module

public import proofs.«01_k».proof.Proof.RefRun

@[expose] public section

set_option maxRecDepth 20000

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The four-bit fields at shift `s` of every word, as values less 8. -/
def field (s : BitVec 32) (W : IVec S640x32000 32) : FVec F S640x32000 .bf16 :=
  subf (sitofp .bf16 (andi (Host.shrsi W (broadcastInDim S640x32000 ![] bcast_S_S640x32000 (constantI S_ 32 s)))
      (broadcastInDim S640x32000 ![] bcast_S_S640x32000 (constantI S_ 32 15#32))))
    (broadcastInDim S640x32000 ![] bcast_S_S640x32000 (constant S_ .bf16 0x4100#16))

/-- The product of the activations at position `o` of every word with the scaled fields at shift `s`. -/
def term (s : BitVec 32) (o : Fin 4 → ℕ) (h : S200x1x640x8.Slices o S200x1x640x1) (X : FVec F S200x1x640x8 .bf16)
    (W : IVec S640x32000 32) (S : FVec F S40x1x32000 .bf16) : FVec F S200x1x32000 .f32 :=
  Host.dotGeneral dot_S200x1x40x16_S40x16x32000_S200x1x32000_23_01_01_2_n_n none
    (shapeCast S200x1x40x16 (shapeCast S200x1x640 (extractStridedSlice S200x1x640x1 o X h) shapeCasts_S200x1x640x1_S200x1x640) shapeCasts_S200x1x640_S200x1x40x16)
    (mulf (shapeCast S40x16x32000 (field s W) shapeCasts_S640x32000_S40x16x32000)
      (broadcastInDim S40x16x32000 ![0, 1, 2] bcast_S40x1x32000_S40x16x32000_0_1_2 S))

/-- The logits: the eight products, added in order. -/
def logits (X : FVec F S200x1x640x8 .bf16) (W : IVec S640x32000 32) (S : FVec F S40x1x32000 .bf16) : FVec F S200x1x32000 .f32 :=
  addf (addf (addf (addf (addf (addf (addf (term 0#32 ![0, 0, 0, 0] slices_S200x1x640x8_S200x1x640x1_0_0_0_0 X W S) (term 4#32 ![0, 0, 0, 1] slices_S200x1x640x8_S200x1x640x1_0_0_0_1 X W S)
    ) (term 8#32 ![0, 0, 0, 2] slices_S200x1x640x8_S200x1x640x1_0_0_0_2 X W S)
    ) (term 12#32 ![0, 0, 0, 3] slices_S200x1x640x8_S200x1x640x1_0_0_0_3 X W S)
    ) (term 16#32 ![0, 0, 0, 4] slices_S200x1x640x8_S200x1x640x1_0_0_0_4 X W S)
    ) (term 20#32 ![0, 0, 0, 5] slices_S200x1x640x8_S200x1x640x1_0_0_0_5 X W S)
    ) (term 24#32 ![0, 0, 0, 6] slices_S200x1x640x8_S200x1x640x1_0_0_0_6 X W S)
    ) (term 28#32 ![0, 0, 0, 7] slices_S200x1x640x8_S200x1x640x1_0_0_0_7 X W S)

/-- The entries of the argmax of `L`. -/
def argmaxOf (L : FVec F S200x1x32000 .f32) : IVec S200x1 32 :=
  fun j => (Host.argReduce reducer_argmax_f32_i32 L (iotaInDim S200x1x32000 32 2) (constant S_ .f32 0xFF800000#32 : FVec F S_ .f32)
    (constantI S_ 32 0#32) reducesTo_S200x1x32000_S200x1_d2 h_S_ j).2

/-- The two greatest entries of each row of `L`. -/
def topOf (L : FVec F S200x1x32000 .f32) : FVec F S200x1x2 .f32 :=
  (Host.topK S200x1x2 2 (FloatOps.cmpfTotal .gt) L sliceFits_S200x1x32000_S200x1x2).1

/-- The first of them. -/
def fstOf (L : FVec F S200x1x32000 .f32) : FVec F S200x1 .f32 :=
  shapeCast S200x1 (extractStridedSlice S200x1x1 ![0, 0, 0] (topOf L) slices_S200x1x2_S200x1x1_0_0_0) shapeCasts_S200x1x1_S200x1

/-- The second of them. -/
def sndOf (L : FVec F S200x1x32000 .f32) : FVec F S200x1 .f32 :=
  shapeCast S200x1 (extractStridedSlice S200x1x1 ![0, 0, 1] (topOf L) slices_S200x1x2_S200x1x1_0_0_1) shapeCasts_S200x1x1_S200x1

section Lines

variable (V : Valuation τ sig (Elt F))

theorem A_v0 : after opsA V (main_v0 : DevRef τ sig) = broadcastInDim S40x1x32000 ![0, 2] bcast_S40x32000_S40x1x32000_0_2 (V (main_arg2 : DevRef τ sig)) := by
  after_results
theorem A_v1 : after opsA V (main_v1 : DevRef τ sig) = shapeCast S200x1x640x8 (V (main_arg0 : DevRef τ sig)) shapeCasts_S200x1x5120_S200x1x640x8 := by
  after_results
  rfl
theorem A_arg0 : after opsA V (main_arg0 : DevRef τ sig) = V (main_arg0 : DevRef τ sig) := by after_results
theorem A_arg1 : after opsA V (main_arg1 : DevRef τ sig) = V (main_arg1 : DevRef τ sig) := by after_results
theorem A_arg2 : after opsA V (main_arg2 : DevRef τ sig) = V (main_arg2 : DevRef τ sig) := by after_results

/-- What the lines of the nibbles read, and the arguments. -/
structure Inputs (x : FVec F S200x1x5120 .bf16) (w : IVec S640x32000 32) (s : FVec F S40x32000 .bf16)
    (X : FVec F S200x1x640x8 .bf16) (S : FVec F S40x1x32000 .bf16) (V : Valuation τ sig (Elt F)) : Prop where
  v0 : V (main_v0 : DevRef τ sig) = S
  v1 : V (main_v1 : DevRef τ sig) = X
  arg0 : V (main_arg0 : DevRef τ sig) = x
  arg1 : V (main_arg1 : DevRef τ sig) = w
  arg2 : V (main_arg2 : DevRef τ sig) = s

variable {x : FVec F S200x1x5120 .bf16} {w : IVec S640x32000 32} {s : FVec F S40x32000 .bf16}
  {X : FVec F S200x1x640x8 .bf16} {S : FVec F S40x1x32000 .bf16} {V : Valuation τ sig (Elt F)}

/-- The line of nibble 0 keeps them, -/
theorem T0_inputs (h : Inputs x w s X S V) : Inputs x w s X S (after opsT0 V) :=
  ⟨Eq.trans (by after_results) h.v0, Eq.trans (by after_results) h.v1, Eq.trans (by after_results) h.arg0, Eq.trans (by after_results) h.arg1, Eq.trans (by after_results) h.arg2⟩
/-- and leaves its product. -/
theorem T0_sum (h : Inputs x w s X S V) : after opsT0 V (main_v15 : DevRef τ sig) = (term 0#32 ![0, 0, 0, 0] slices_S200x1x640x8_S200x1x640x1_0_0_0_0 X w S) := by
  rw [← h.v0, ← h.v1, ← h.arg1]
  after_results
  rfl
/-- The line of nibble 1 keeps them, -/
theorem T1_inputs (h : Inputs x w s X S V) : Inputs x w s X S (after opsT1 V) :=
  ⟨Eq.trans (by after_results) h.v0, Eq.trans (by after_results) h.v1, Eq.trans (by after_results) h.arg0, Eq.trans (by after_results) h.arg1, Eq.trans (by after_results) h.arg2⟩
/-- and adds its product. -/
theorem T1_sum (h : Inputs x w s X S V) {L : FVec F S200x1x32000 .f32} (hL : V (main_v15 : DevRef τ sig) = L) :
    after opsT1 V (main_v30 : DevRef τ sig) = addf L (term 4#32 ![0, 0, 0, 1] slices_S200x1x640x8_S200x1x640x1_0_0_0_1 X w S) := by
  rw [← h.v0, ← h.v1, ← h.arg1, ← hL]
  after_results
  rfl
/-- The line of nibble 2 keeps them, -/
theorem T2_inputs (h : Inputs x w s X S V) : Inputs x w s X S (after opsT2 V) :=
  ⟨Eq.trans (by after_results) h.v0, Eq.trans (by after_results) h.v1, Eq.trans (by after_results) h.arg0, Eq.trans (by after_results) h.arg1, Eq.trans (by after_results) h.arg2⟩
/-- and adds its product. -/
theorem T2_sum (h : Inputs x w s X S V) {L : FVec F S200x1x32000 .f32} (hL : V (main_v30 : DevRef τ sig) = L) :
    after opsT2 V (main_v45 : DevRef τ sig) = addf L (term 8#32 ![0, 0, 0, 2] slices_S200x1x640x8_S200x1x640x1_0_0_0_2 X w S) := by
  rw [← h.v0, ← h.v1, ← h.arg1, ← hL]
  after_results
  rfl
/-- The line of nibble 3 keeps them, -/
theorem T3_inputs (h : Inputs x w s X S V) : Inputs x w s X S (after opsT3 V) :=
  ⟨Eq.trans (by after_results) h.v0, Eq.trans (by after_results) h.v1, Eq.trans (by after_results) h.arg0, Eq.trans (by after_results) h.arg1, Eq.trans (by after_results) h.arg2⟩
/-- and adds its product. -/
theorem T3_sum (h : Inputs x w s X S V) {L : FVec F S200x1x32000 .f32} (hL : V (main_v45 : DevRef τ sig) = L) :
    after opsT3 V (main_v60 : DevRef τ sig) = addf L (term 12#32 ![0, 0, 0, 3] slices_S200x1x640x8_S200x1x640x1_0_0_0_3 X w S) := by
  rw [← h.v0, ← h.v1, ← h.arg1, ← hL]
  after_results
  rfl
/-- The line of nibble 4 keeps them, -/
theorem T4_inputs (h : Inputs x w s X S V) : Inputs x w s X S (after opsT4 V) :=
  ⟨Eq.trans (by after_results) h.v0, Eq.trans (by after_results) h.v1, Eq.trans (by after_results) h.arg0, Eq.trans (by after_results) h.arg1, Eq.trans (by after_results) h.arg2⟩
/-- and adds its product. -/
theorem T4_sum (h : Inputs x w s X S V) {L : FVec F S200x1x32000 .f32} (hL : V (main_v60 : DevRef τ sig) = L) :
    after opsT4 V (main_v75 : DevRef τ sig) = addf L (term 16#32 ![0, 0, 0, 4] slices_S200x1x640x8_S200x1x640x1_0_0_0_4 X w S) := by
  rw [← h.v0, ← h.v1, ← h.arg1, ← hL]
  after_results
  rfl
/-- The line of nibble 5 keeps them, -/
theorem T5_inputs (h : Inputs x w s X S V) : Inputs x w s X S (after opsT5 V) :=
  ⟨Eq.trans (by after_results) h.v0, Eq.trans (by after_results) h.v1, Eq.trans (by after_results) h.arg0, Eq.trans (by after_results) h.arg1, Eq.trans (by after_results) h.arg2⟩
/-- and adds its product. -/
theorem T5_sum (h : Inputs x w s X S V) {L : FVec F S200x1x32000 .f32} (hL : V (main_v75 : DevRef τ sig) = L) :
    after opsT5 V (main_v90 : DevRef τ sig) = addf L (term 20#32 ![0, 0, 0, 5] slices_S200x1x640x8_S200x1x640x1_0_0_0_5 X w S) := by
  rw [← h.v0, ← h.v1, ← h.arg1, ← hL]
  after_results
  rfl
/-- The line of nibble 6 keeps them, -/
theorem T6_inputs (h : Inputs x w s X S V) : Inputs x w s X S (after opsT6 V) :=
  ⟨Eq.trans (by after_results) h.v0, Eq.trans (by after_results) h.v1, Eq.trans (by after_results) h.arg0, Eq.trans (by after_results) h.arg1, Eq.trans (by after_results) h.arg2⟩
/-- and adds its product. -/
theorem T6_sum (h : Inputs x w s X S V) {L : FVec F S200x1x32000 .f32} (hL : V (main_v90 : DevRef τ sig) = L) :
    after opsT6 V (main_v105 : DevRef τ sig) = addf L (term 24#32 ![0, 0, 0, 6] slices_S200x1x640x8_S200x1x640x1_0_0_0_6 X w S) := by
  rw [← h.v0, ← h.v1, ← h.arg1, ← hL]
  after_results
  rfl
/-- The line of nibble 7 keeps them, -/
theorem T7_inputs (h : Inputs x w s X S V) : Inputs x w s X S (after opsT7 V) :=
  ⟨Eq.trans (by after_results) h.v0, Eq.trans (by after_results) h.v1, Eq.trans (by after_results) h.arg0, Eq.trans (by after_results) h.arg1, Eq.trans (by after_results) h.arg2⟩
/-- and adds its product. -/
theorem T7_sum (h : Inputs x w s X S V) {L : FVec F S200x1x32000 .f32} (hL : V (main_v105 : DevRef τ sig) = L) :
    after opsT7 V (main_v120 : DevRef τ sig) = addf L (term 28#32 ![0, 0, 0, 7] slices_S200x1x640x8_S200x1x640x1_0_0_0_7 X w S) := by
  rw [← h.v0, ← h.v1, ← h.arg1, ← hL]
  after_results
  rfl

/-- The argmax's five operations with any reductions in place of its own: the second result is the second one's of the
    same operands. -/
theorem G_any (V : Valuation τ sig (Elt F)) (i : IVec S200x1x32000 32) (a : FVec F S_ .f32) (b : IVec S_ 32)
    (f : FVec F S200x1x32000 .f32 → IVec S200x1x32000 32 → FVec F S_ .f32 → IVec S_ 32 → FVec F S200x1 .f32)
    (g : FVec F S200x1x32000 .f32 → IVec S200x1x32000 32 → FVec F S_ .f32 → IVec S_ 32 → IVec S200x1 32) :
    after [TRef.nullary main_call0.v0 i, TRef.nullary main_call0.cst a, TRef.nullary main_call0.c b,
        TRef.quaternary (.of main_v120) main_call0.v0 main_call0.cst main_call0.c main_call0.v1_0 f,
        TRef.quaternary (.of main_v120) main_call0.v0 main_call0.cst main_call0.c main_call0.v1_1 g] V (main_v121 : DevRef τ sig)
      = g (V (main_v120 : DevRef τ sig)) i a b := by
  after_results
  rfl
theorem G_v121 (V : Valuation τ sig (Elt F)) : after opsG V (main_v121 : DevRef τ sig) = argmaxOf (V (main_v120 : DevRef τ sig)) :=
  G_any V _ _ _ _ _

theorem G_v120 (V : Valuation τ sig (Elt F)) : after opsG V (main_v120 : DevRef τ sig) = V (main_v120 : DevRef τ sig) := by after_results
theorem G_arg0 (V : Valuation τ sig (Elt F)) : after opsG V (main_arg0 : DevRef τ sig) = V (main_arg0 : DevRef τ sig) := by after_results
theorem G_arg1 (V : Valuation τ sig (Elt F)) : after opsG V (main_arg1 : DevRef τ sig) = V (main_arg1 : DevRef τ sig) := by after_results
theorem G_arg2 (V : Valuation τ sig (Elt F)) : after opsG V (main_arg2 : DevRef τ sig) = V (main_arg2 : DevRef τ sig) := by after_results
theorem R_v129 (V : Valuation τ sig (Elt F)) : after opsR V (main_v129 : DevRef τ sig) = shapeCast S1x200 (V (main_v121 : DevRef τ sig)) shapeCasts_S200x1_S1x200 := by
  after_results
  rfl
theorem R_v130 (V : Valuation τ sig (Elt F)) : after opsR V (main_v130 : DevRef τ sig) = shapeCast S1x200 (subf (fstOf (V (main_v120 : DevRef τ sig))) (sndOf (V (main_v120 : DevRef τ sig)))) shapeCasts_S200x1_S1x200 := by
  after_results
  rfl
theorem R_v131 (V : Valuation τ sig (Elt F)) : after opsR V (main_v131 : DevRef τ sig) = shapeCast S1x200 (fstOf (V (main_v120 : DevRef τ sig))) shapeCasts_S200x1_S1x200 := by
  after_results
  rfl
theorem R_v120 (V : Valuation τ sig (Elt F)) : after opsR V (main_v120 : DevRef τ sig) = V (main_v120 : DevRef τ sig) := by after_results
theorem R_arg0 (V : Valuation τ sig (Elt F)) : after opsR V (main_arg0 : DevRef τ sig) = V (main_arg0 : DevRef τ sig) := by after_results
theorem R_arg1 (V : Valuation τ sig (Elt F)) : after opsR V (main_arg1 : DevRef τ sig) = V (main_arg1 : DevRef τ sig) := by after_results
theorem R_arg2 (V : Valuation τ sig (Elt F)) : after opsR V (main_arg2 : DevRef τ sig) = V (main_arg2 : DevRef τ sig) := by after_results

end Lines

/-- The logits from the launch's three arguments. -/
def refLogits (x : FVec F S200x1x5120 .bf16) (w : IVec S640x32000 32) (s : FVec F S40x32000 .bf16) : FVec F S200x1x32000 .f32 :=
  logits (shapeCast S200x1x640x8 x shapeCasts_S200x1x5120_S200x1x640x8) w (broadcastInDim S40x1x32000 ![0, 2] bcast_S40x32000_S40x1x32000_0_2 s)

/-- What the buffers hold after every line. -/
structure Results (x : FVec F S200x1x5120 .bf16) (w : IVec S640x32000 32) (s : FVec F S40x32000 .bf16)
    (V : Valuation τ sig (Elt F)) : Prop where
  token : V (main_v129 : DevRef τ sig) = shapeCast S1x200 (argmaxOf (refLogits x w s)) shapeCasts_S200x1_S1x200
  margin : V (main_v130 : DevRef τ sig) = shapeCast S1x200 (subf (fstOf (refLogits x w s)) (sndOf (refLogits x w s))) shapeCasts_S200x1_S1x200
  top : V (main_v131 : DevRef τ sig) = shapeCast S1x200 (fstOf (refLogits x w s)) shapeCasts_S200x1_S1x200
  logits : V (main_v120 : DevRef τ sig) = refLogits x w s
  arg0 : V (main_arg0 : DevRef τ sig) = x
  arg1 : V (main_arg1 : DevRef τ sig) = w
  arg2 : V (main_arg2 : DevRef τ sig) = s

/-- The argmax and the last line, from the logits. -/
theorem results_of_logits {x : FVec F S200x1x5120 .bf16} {w : IVec S640x32000 32} {s : FVec F S40x32000 .bf16}
    {X : FVec F S200x1x640x8 .bf16} {S : FVec F S40x1x32000 .bf16} {V : Valuation τ sig (Elt F)} (h : Inputs x w s X S V)
    (hL : V (main_v120 : DevRef τ sig) = refLogits x w s) : Results x w s (after opsR (after opsG V)) := by
  have g := (G_v120 V).trans hL
  refine ⟨(R_v129 _).trans ?_, (R_v130 _).trans ?_, (R_v131 _).trans ?_, (R_v120 _).trans g, (R_arg0 _).trans ((G_arg0 _).trans h.arg0),
    (R_arg1 _).trans ((G_arg1 _).trans h.arg1), (R_arg2 _).trans ((G_arg2 _).trans h.arg2)⟩
  · rw [G_v121, hL]
  · rw [g]
  · rw [g]

/-- The whole program. -/
theorem results (V : Valuation τ sig (Elt F)) :
    Results (V (main_arg0 : DevRef τ sig)) (V (main_arg1 : DevRef τ sig)) (V (main_arg2 : DevRef τ sig)) (after ops V) := by
  have hA : Inputs _ _ _ _ _ (after opsA V) := ⟨A_v0 V, A_v1 V, A_arg0 V, A_arg1 V, A_arg2 V⟩
  have s0 := T0_sum hA
  have h0 := T0_inputs hA
  have s1 := T1_sum h0 s0
  have h1 := T1_inputs h0
  have s2 := T2_sum h1 s1
  have h2 := T2_inputs h1
  have s3 := T3_sum h2 s2
  have h3 := T3_inputs h2
  have s4 := T4_sum h3 s3
  have h4 := T4_inputs h3
  have s5 := T5_sum h4 s4
  have h5 := T5_inputs h4
  have s6 := T6_sum h5 s5
  have h6 := T6_inputs h5
  have s7 := T7_sum h6 s6
  have h7 := T7_inputs h6
  have e : after ops V = after opsR (after opsG (after opsT7 (after opsT6 (after opsT5 (after opsT4 (after opsT3 (after opsT2
      (after opsT1 (after opsT0 (after opsA V)))))))))) := by
    unfold ops
    iterate 10 rw [after_append]
  rw [e]
  exact results_of_logits h7 s7

/-- The run: the four results and the arguments unchanged. -/
theorem run_main (m : (ℓ : Loc nD τ sig) → Buf (Elt F) ℓ) (ρ : Dev nD → PrngReg) :
    θ_run (defs (F := F)) (onTc (τ := τ) main) ⟨m, fun _ => 0, ρ⟩ fun r => ∀ c : Dev nD,
      let L := refLogits (m ((c.tc : Thread nD τ).loc main_arg0)) (m ((c.tc : Thread nD τ).loc main_arg1)) (m ((c.tc : Thread nD τ).loc main_arg2))
      r.2.mem ((c.tc : Thread nD τ).loc main_v129) = shapeCast S1x200 (argmaxOf L) shapeCasts_S200x1_S1x200
      ∧ r.2.mem ((c.tc : Thread nD τ).loc main_v130) = shapeCast S1x200 (subf (fstOf L) (sndOf L)) shapeCasts_S200x1_S1x200
      ∧ r.2.mem ((c.tc : Thread nD τ).loc main_v131) = shapeCast S1x200 (fstOf L) shapeCasts_S200x1_S1x200
      ∧ r.2.mem ((c.tc : Thread nD τ).loc main_v120) = L
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c =>
      have e := results (launchContents m c)
      ⟨(h c main_v129).trans e.token, (h c main_v130).trans e.margin, (h c main_v131).trans e.top, (h c main_v120).trans e.logits,
        (h c main_arg0).trans e.arg0, (h c main_arg1).trans e.arg1, (h c main_arg2).trans e.arg2⟩)
    (run_raw m ρ)

end Cert.ReferenceIdeal.Run
-- ==== Proof.RefTop.lean ====
/-
  What the reference's argmax and two greatest are, for a row of logits read as `f`: the argmax is the word of the least
  position of a greatest entry, the first of the two greatest is that entry, and the second is the greatest of the rest.
-/
module

public import proofs.«01_k».proof.Proof.RefRead
public import proofs.«01_k».proof.Proof.Greatest
public import Idealize.ShloMosaic.PureOps.Ideal.Laws
public import Idealize.ShloMosaic.Lib.SortFacts
public import Idealize.ShloMosaic.Lib.Pipeline.Value
public import Idealize.ShloMosaic.Lib.ValueIdxCore

@[expose] public section

noncomputable section

open Idealize.ShloMosaic Idealize.ShloMosaic.TcCoe Idealize.ShloMosaic.ValueIdx Idealize.SL.Sem

namespace Cert.ReferenceIdeal.Top

open Cert.ReferenceIdeal Cert.ReferenceIdeal.Gen Cert.ReferenceIdeal.Run Cert.Greatest

/-- `p` is at least as good an answer as `q`: a greater value, or an equal one at a word no greater. -/
def Better (p q : EReal × BitVec 32) : Prop := q.1 < p.1 ∨ (q.1 = p.1 ∧ p.2.toInt ≤ q.2.toInt)

theorem Better.refl (p : EReal × BitVec 32) : Better p p := Or.inr ⟨rfl, le_rfl⟩

theorem Better.trans {p q s : EReal × BitVec 32} (h : Better p q) (h' : Better q s) : Better p s := by
  rcases h with h | ⟨h, hw⟩ <;> rcases h' with h' | ⟨h', hw'⟩
  · exact Or.inl (h'.trans h)
  · exact Or.inl (h' ▸ h)
  · exact Or.inl (h ▸ h')
  · exact Or.inr ⟨h'.trans h, hw.trans hw'⟩

/-- The body keeps the better of its two pairs. -/
theorem body_spec (p q : EReal × BitVec 32) :
    (reducer_argmax_f32_i32 (F := Ideal) p q = p ∨ reducer_argmax_f32_i32 (F := Ideal) p q = q)
    ∧ Better (reducer_argmax_f32_i32 (F := Ideal) p q) p ∧ Better (reducer_argmax_f32_i32 (F := Ideal) p q) q := by
  obtain ⟨a, i⟩ := p
  obtain ⟨b, j⟩ := q
  have e : reducer_argmax_f32_i32 (F := Ideal) (a, i) (b, j) = if b < a ∨ (a = b ∧ i.toInt < j.toInt) then (a, i) else (b, j) := by
    unfold reducer_argmax_f32_i32
    simp only [Ideal.cmpf_def, Ideal.cmp, IntOp.ori, IntOp.andi, IntOp.cmpi, Scalar.select, BitVec.slt]
    have hor : ∀ c : Bool, 1#1 ||| BitVec.ofBool c = 1#1 := by decide
    by_cases h : b < a
    · simp [h, hor]
    · by_cases h' : a = b
      · subst h'
        by_cases hw : i.toInt < j.toInt <;> simp [hw]
      · simp [h, h']
  rw [e]
  by_cases h : b < a ∨ (a = b ∧ i.toInt < j.toInt)
  · rw [if_pos h]
    refine ⟨Or.inl rfl, Better.refl _, ?_⟩
    rcases h with h | ⟨h, hw⟩
    · exact Or.inl h
    · exact Or.inr ⟨h.symm, hw.le⟩
  · rw [if_neg h]
    refine ⟨Or.inr rfl, ?_, Better.refl _⟩
    rcases lt_trichotomy a b with h' | h' | h'
    · exact Or.inl h'
    · refine Or.inr ⟨h', ?_⟩
      by_contra hc
      exact h (Or.inr ⟨h', not_le.mp hc⟩)
    · exact absurd (Or.inl h') h

/-- The fold is the best pair of the list, the pair it starts from among them. -/
theorem fold_best (l : List (EReal × BitVec 32)) : ∀ p : EReal × BitVec 32,
    (l.foldl (reducer_argmax_f32_i32 (F := Ideal)) p = p ∨ l.foldl (reducer_argmax_f32_i32 (F := Ideal)) p ∈ l)
    ∧ Better (l.foldl (reducer_argmax_f32_i32 (F := Ideal)) p) p
    ∧ ∀ q ∈ l, Better (l.foldl (reducer_argmax_f32_i32 (F := Ideal)) p) q := by
  induction l with
  | nil => exact fun p => ⟨Or.inl rfl, Better.refl _, fun q hq => absurd hq List.not_mem_nil⟩
  | cons b l ih =>
    intro p
    rw [List.foldl_cons]
    obtain ⟨hb, hbp, hbq⟩ := body_spec p b
    obtain ⟨h1, h2, h3⟩ := ih (reducer_argmax_f32_i32 (F := Ideal) p b)
    refine ⟨?_, h2.trans hbp, fun q hq => ?_⟩
    · rcases h1 with h1 | h1
      · rcases hb with hb | hb
        · exact Or.inl (h1.trans hb)
        · exact Or.inr (List.mem_cons.mpr (Or.inl (h1.trans hb)))
      · exact Or.inr (List.mem_cons_of_mem _ h1)
    · rcases List.mem_cons.mp hq with rfl | hq
      · exact h2.trans hbq
      · exact h3 q hq

variable (L : FVec Ideal S200x1x32000 .f32) (r : Fin 200) (f : ℕ → EReal) (hf : ∀ v : Fin 32000, L (ix3 r (0 : Fin 1) v) = f v.val)

theorem drop_row (i : S200x1x32000.Idx) : reducesTo_S200x1x32000_S200x1_d2.drop i = ix2 r (0 : Fin 1) ↔ (i 0).val = r.val := by
  constructor
  · intro h
    have := congrArg (fun k : S200x1.Idx => (k 0).val) h
    exact this
  · intro h
    funext a; apply Fin.ext
    match a with
    | ⟨0, _⟩ => exact h
    | ⟨1, _⟩ =>
      have h1 : (reducesTo_S200x1x32000_S200x1_d2.drop i ⟨1, Nat.one_lt_two⟩).val < 1 := (reducesTo_S200x1x32000_S200x1_d2.drop i ⟨1, Nat.one_lt_two⟩).isLt
      exact Nat.lt_one_iff.mp h1

include hf in
/-- The row's pairs. -/
theorem mem_fiber (q : EReal × BitVec 32) :
    q ∈ Host.argReduceFiber L (iotaInDim S200x1x32000 32 2) reducesTo_S200x1x32000_S200x1_d2 (ix2 r (0 : Fin 1))
      ↔ ∃ v < 32000, q = (f v, BitVec.ofNat 32 v) := by
  unfold Host.argReduceFiber
  rw [List.mem_map]
  constructor
  · rintro ⟨n, hn, rfl⟩
    have hd := (drop_row r _).mp (of_decide_eq_true (List.mem_filter.mp hn).2)
    generalize S200x1x32000.rowMajor.symm n = i at hd ⊢
    refine ⟨(i 2).val, (i 2).isLt, ?_⟩
    have hi : i = ix3 r (0 : Fin 1) (⟨(i 2).val, (i 2).isLt⟩ : Fin 32000) := by
      funext a; apply Fin.ext
      match a with
      | ⟨0, _⟩ => exact hd
      | ⟨1, _⟩ => exact Nat.lt_one_iff.mp (i 1).isLt
      | ⟨2, _⟩ => rfl
    refine Prod.ext ?_ rfl
    exact (congrArg L hi).trans (hf _)
  · rintro ⟨v, hv, rfl⟩
    refine ⟨S200x1x32000.rowMajor (ix3 r (0 : Fin 1) (⟨v, hv⟩ : Fin 32000)), List.mem_filter.mpr ⟨List.mem_finRange _, ?_⟩, ?_⟩
    · rw [Equiv.symm_apply_apply]
      exact decide_eq_true ((drop_row r _).mpr rfl)
    · rw [Equiv.symm_apply_apply]
      exact Prod.ext (hf ⟨v, hv⟩) rfl

/-- An argmax's words at the ideal values are the folds over the pairs. -/
theorem argReduce_fold {s t u : Shape} {axes : List (Fin s.rank)} (b : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel)
    (hx : ∀ k, ix k = (⊥ : EReal)) (hy : ∀ k, iy k = 0#32) :
    (fun j => (Host.argReduce b x y ix iy h hu j).2) = fun j => ((Host.argReduceFiber x y h j).foldl b ((⊥ : EReal), 0#32)).2 := by
  funext j
  rw [Ideal.argReduce_eq_reduce2, Host.reduce2_eq_foldl_fiber, hx, hy]

theorem argmaxOf_eq : argmaxOf L = fun j => ((Host.argReduceFiber L (iotaInDim S200x1x32000 32 2) reducesTo_S200x1x32000_S200x1_d2 j).foldl
    (reducer_argmax_f32_i32 (F := Ideal)) ((⊥ : EReal), 0#32)).2 := by
  have hb : Ideal.ofBits .f32 0xFF800000#32 = ⊥ := by simp [Ideal.ofBits, Ideal.ieee]
  unfold argmaxOf
  exact argReduce_fold (reducer_argmax_f32_i32 (F := Ideal)) L (iotaInDim S200x1x32000 32 2) (constant S_ .f32 0xFF800000#32 : FVec Ideal S_ .f32)
    (constantI S_ 32 0#32) reducesTo_S200x1x32000_S200x1_d2 h_S_ (fun _ => hb) (fun _ => rfl)

include hf in
/-- The row's argmax is the fold over some list of the row's pairs. -/
theorem argmax_fold : ∃ l : List (EReal × BitVec 32), (∀ q, q ∈ l ↔ ∃ v < 32000, q = (f v, BitVec.ofNat 32 v))
    ∧ argmaxOf L (ix2 r (0 : Fin 1)) = (l.foldl (reducer_argmax_f32_i32 (F := Ideal)) ((⊥ : EReal), 0#32)).2 :=
  ⟨_, mem_fiber L r f hf, congrFun (argmaxOf_eq L) (ix2 r (0 : Fin 1))⟩

include hf in
/-- The argmax is the word of the least position of a greatest entry. -/
theorem argmax_at : ∃ t, IsTop 32000 f t ∧ argmaxOf L (ix2 r (0 : Fin 1)) = BitVec.ofNat 32 t := by
  obtain ⟨l, hl, e⟩ := argmax_fold L r f hf
  obtain ⟨h1, h2, h3⟩ := fold_best l ((⊥ : EReal), 0#32)
  rw [e]
  generalize l.foldl (reducer_argmax_f32_i32 (F := Ideal)) ((⊥ : EReal), 0#32) = p at h1 h2 h3 ⊢
  have hall : ∀ v < 32000, Better p (f v, BitVec.ofNat 32 v) := fun v hv => h3 _ ((hl _).mpr ⟨v, hv, rfl⟩)
  have hp : ∃ t < 32000, p = (f t, BitVec.ofNat 32 t) := by
    rcases h1 with rfl | h1
    · refine ⟨0, by decide, Prod.ext ?_ rfl⟩
      rcases hall 0 (by decide) with h | ⟨h, -⟩
      · exact absurd h not_lt_bot
      · exact h.symm
    · exact (hl p).mp h1
  obtain ⟨t, ht, rfl⟩ := hp
  refine ⟨t, ⟨ht, fun i hi => ?_, fun i hi => ?_⟩, rfl⟩
  · rcases hall i hi with h | ⟨h, -⟩
    · exact h.le
    · exact h.le
  · rcases hall i (by omega) with h | ⟨-, h⟩
    · exact h
    · dsimp only at h
      rw [toInt_ofNat_small (by omega), toInt_ofNat_small (by omega)] at h
      omega

/-- A sort along an axis, read at an index. -/
theorem sortBy_apply {ι α : Type} (s : Shape) (d : ℕ) (cmp : ι → ι → BitVec 1) (rows : s.Idx → ι) (x : s.Idx → α) (j : s.Idx) (hd : d < s.rank) :
    Host.sortBy s d cmp rows x j = x (j.along ⟨d, hd⟩ (sortedFrom (fun k k' => cmp (rows (j.along ⟨d, hd⟩ k)) (rows (j.along ⟨d, hd⟩ k')) == 1#1) (j ⟨d, hd⟩))) := by
  unfold Host.sortBy
  rw [dif_pos hd]

include hf in
/-- The two greatest. -/
theorem top_at : ∃ t, t < 32000 ∧ (∀ i, i < 32000 → f i ≤ f t) ∧ fstOf L (ix2 r (0 : Fin 1)) = f t
    ∧ IsSecond 32000 f t (sndOf L (ix2 r (0 : Fin 1))) := by
  -- the order of the row's positions, greatest first
  let R : Fin 32000 → Fin 32000 → Bool := fun k k' => decide (f k'.val < f k.val)
  have hσ : ∀ k : Fin 2, topOf L (ix3 r (0 : Fin 1) k) = f (sortedFrom R ⟨k.val, by omega⟩).val := by
    intro k
    have hd : 2 < S200x1x32000.rank := by decide
    generalize hk : (⟨k.val, by omega⟩ : Fin 32000) = k₀
    have hal : ∀ k' : Fin 32000, (Shape.Idx.along (s := S200x1x32000) (ix3 r (0 : Fin 1) k₀) ⟨2, hd⟩ k') = ix3 r (0 : Fin 1) k' := by
      intro k'
      funext a; apply Fin.ext
      match a with
      | ⟨0, _⟩ => rfl
      | ⟨1, _⟩ => rfl
      | ⟨2, _⟩ => rfl
    have hR : (fun k' k'' : Fin 32000 => FloatOps.cmpfTotal (F := Ideal) (φ := .f32) .gt
        (L (Shape.Idx.along (s := S200x1x32000) (ix3 r (0 : Fin 1) k₀) ⟨2, hd⟩ k'))
        (L (Shape.Idx.along (s := S200x1x32000) (ix3 r (0 : Fin 1) k₀) ⟨2, hd⟩ k'')) == 1#1) = R := by
      funext k' k''
      rw [hal, hal, hf, hf, Ideal.cmpfTotal_def]
      show (BitVec.ofBool (decide (f k''.val < f k'.val)) == 1#1) = decide (f k''.val < f k'.val)
      by_cases h : f k''.val < f k'.val <;> simp [h]
    have hsl : topOf L (ix3 r (0 : Fin 1) k) = Host.sortBy S200x1x32000 2 (fun l r => FloatOps.cmpfTotal (F := Ideal) (φ := .f32) .gt l.1 r.1)
        (fun j => (L j, (fun i => if hd : 2 < S200x1x32000.rank then iotaInDim S200x1x32000 32 ⟨2, hd⟩ i else 0#32) j)) L (ix3 r (0 : Fin 1) k₀) := by
      subst hk
      unfold topOf Host.topK
      dsimp only
      rw [Host.sort2_eq_sortBy]
      unfold extractStridedSlice
      dsimp only
      congr 1
      funext a; apply Fin.ext
      match a with
      | ⟨0, _⟩ => show 0 + r.val = r.val; omega
      | ⟨1, _⟩ => rfl
      | ⟨2, _⟩ => show 0 + k.val = k.val; omega
    rw [hsl, sortBy_apply _ _ _ _ _ _ hd]
    exact (congrArg (fun R' => L (Shape.Idx.along (s := S200x1x32000) (ix3 r (0 : Fin 1) k₀) ⟨2, hd⟩ (sortedFrom R' k₀))) hR).trans
      ((congrArg L (hal _)).trans (hf _))
  have hinv : ∀ i j : Fin 32000, i < j → f (sortedFrom R j).val ≤ f (sortedFrom R i).val := by
    intro i j hij
    have := sortedFrom_noInversion R R (fun a b h => by
        simp only [R, decide_eq_true_eq] at h
        simp only [R, decide_eq_false_iff_not, not_lt]
        exact h.le) (fun a b h => h) (fun a b c h h' => by
        simp only [R, decide_eq_false_iff_not, not_lt] at h h' ⊢
        exact h.trans h') i j hij
    simp only [R, decide_eq_false_iff_not, not_lt] at this
    exact this
  have hsur := sortedFrom_surjective R
  have hinj := sortedFrom_injective R
  have hfst : fstOf L (ix2 r (0 : Fin 1)) = f (sortedFrom R ⟨0, by decide⟩).val := by
    unfold fstOf
    rw [shapeCast_apply _ _ _ (ix3 r (0 : Fin 1) (0 : Fin 1)) (by rw [Shape.rowMajor_val_two, Shape.rowMajor_val_three]; simp [ix2, ix3])]
    refine Eq.trans ?_ (hσ 0)
    unfold extractStridedSlice
    congr 1
    funext a; apply Fin.ext
    match a with
    | ⟨0, _⟩ => show 0 + r.val = r.val; omega
    | ⟨1, _⟩ => rfl
    | ⟨2, _⟩ => rfl
  have hsnd : sndOf L (ix2 r (0 : Fin 1)) = f (sortedFrom R ⟨1, by decide⟩).val := by
    unfold sndOf
    rw [shapeCast_apply _ _ _ (ix3 r (0 : Fin 1) (0 : Fin 1)) (by rw [Shape.rowMajor_val_two, Shape.rowMajor_val_three]; simp [ix2, ix3])]
    refine Eq.trans ?_ (hσ 1)
    unfold extractStridedSlice
    congr 1
    funext a; apply Fin.ext
    match a with
    | ⟨0, _⟩ => show 0 + r.val = r.val; omega
    | ⟨1, _⟩ => rfl
    | ⟨2, _⟩ => rfl
  refine ⟨(sortedFrom R ⟨0, by decide⟩).val, (sortedFrom R ⟨0, by decide⟩).isLt, fun i hi => ?_, hfst, ⟨fun i hi hne => ?_, Or.inr ?_⟩⟩
  · obtain ⟨k, hk⟩ := hsur ⟨i, hi⟩
    by_cases h0 : k = ⟨0, by decide⟩
    · rw [← h0, hk]
    · have := hinv ⟨0, by decide⟩ k (Nat.pos_of_ne_zero fun h => h0 (Fin.ext h))
      rw [hk] at this
      exact this
  · obtain ⟨k, hk⟩ := hsur ⟨i, hi⟩
    rw [hsnd]
    have h0 : k.val ≠ 0 := fun h => hne (by rw [← show k = ⟨0, by decide⟩ from Fin.ext h, hk])
    by_cases h1 : k = ⟨1, by decide⟩
    · rw [← h1, hk]
    · have h1' : k.val ≠ 1 := fun h => h1 (Fin.ext h)
      have := hinv ⟨1, by decide⟩ k (show 1 < k.val by omega)
      rw [hk] at this
      exact this
  · refine ⟨(sortedFrom R ⟨1, by decide⟩).val, (sortedFrom R ⟨1, by decide⟩).isLt, fun h => ?_, hsnd.symm⟩
    have := congrArg Fin.val (hinj (Fin.ext h))
    exact absurd this (by decide)

end Cert.ReferenceIdeal.Top
-- ==== Proof.RefValue.lean ====
/-
  The reference's logits at the ideal values: each of the eight products is one nibble's part of the logit, and their sum
  is the logit (Logit.lean `logitSum_eq`).
-/
module

public import proofs.«01_k».proof.Proof.RefRead
public import proofs.«01_k».proof.Proof.Logit
public import Idealize.ShloMosaic.PureOps.Ideal.Laws
public import Idealize.ShloMosaic.Lib.TwoAxisContraction
public import Idealize.ShloMosaic.Lib.Pipeline.Value
public import Idealize.ShloMosaic.Lib.ValueIdxCore

@[expose] public section

noncomputable section

open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Run Cert.Logit

theorem ofBits_eight : Ideal.ofBits .bf16 0x4100#16 = ((8 : ℝ) : EReal) := by
  simp [Ideal.ofBits, Ideal.ieee, -EReal.coe_mul]; norm_num

/-- A field is a nibble. -/
theorem field_at (k : Fin 8) (W : IVec S640x32000 32) (a : Fin 640) (v : Fin 32000) :
    field (F := Ideal) (BitVec.ofNat 32 (4 * k.val)) W (ix2 a v) = nib (W (ix2 a v)) k.val := by
  have hk : (BitVec.ofNat 32 (4 * k.val)).toNat = 4 * k.val := by
    rw [BitVec.toNat_ofNat]; have := k.isLt; omega
  show ((((IntOp.andi (IntOp.shrsi .host (W (ix2 a v)) (BitVec.ofNat 32 (4 * k.val))) 15#32).toInt : ℤ) : ℝ) : EReal) - Ideal.ofBits .bf16 0x4100#16 = _
  unfold IntOp.shrsi
  rw [hk, if_pos (by have := k.isLt; omega), BitVec.sshiftRight', hk, ofBits_eight]
  rfl

variable (x : FVec Ideal S200x1x5120 .bf16) (W : IVec S640x32000 32) (sc : FVec Ideal S40x32000 .bf16)

/-- One product is one nibble's part. -/
theorem term_at (k : Fin 8) (o : Fin 4 → ℕ) (h : S200x1x640x8.Slices o S200x1x640x1) (ho : o = ![0, 0, 0, k.val]) (r : Fin 200) (v : Fin 32000) :
    term (F := Ideal) (BitVec.ofNat 32 (4 * k.val)) o h (shapeCast S200x1x640x8 x shapeCasts_S200x1x5120_S200x1x640x8) W
        (broadcastInDim S40x1x32000 ![0, 2] bcast_S40x32000_S40x1x32000_0_2 sc) (ix3 r (0 : Fin 1) v)
      = part (fun d => x (ix3 r (0 : Fin 1) d)) (fun a => W (ix2 a v)) (fun g => sc (ix2 g v)) k := by
  subst ho
  unfold term
  simp only [Host.dotGeneral]
  rw [Ideal.dotGeneral_apply, sum_contr2 dot_S200x1x40x16_S40x16x32000_S200x1x32000_23_01_01_2_n_n 40 16 rfl rfl rfl]
  unfold part
  refine Finset.sum_congr rfl fun g _ => Finset.sum_congr rfl fun j _ => ?_
  have hk := k.isLt
  have hg := g.isLt
  have hj := j.isLt
  have el : dot_S200x1x40x16_S40x16x32000_S200x1x32000_23_01_01_2_n_n.lhsIdx (ix3 r (0 : Fin 1) v)
      ((contrEquiv2 dot_S200x1x40x16_S40x16x32000_S200x1x32000_23_01_01_2_n_n 40 16 rfl rfl rfl).symm (g, j)) = ix4 r (0 : Fin 1) g j := by
    funext a; apply Fin.ext
    match a with
    | ⟨0, _⟩ => rfl
    | ⟨1, _⟩ => rfl
    | ⟨2, _⟩ => exact contrEquiv2_symm_val0 dot_S200x1x40x16_S40x16x32000_S200x1x32000_23_01_01_2_n_n 40 16 rfl rfl rfl (g, j)
    | ⟨3, _⟩ => exact contrEquiv2_symm_val1 dot_S200x1x40x16_S40x16x32000_S200x1x32000_23_01_01_2_n_n 40 16 rfl rfl rfl (g, j)
  have er : dot_S200x1x40x16_S40x16x32000_S200x1x32000_23_01_01_2_n_n.rhsIdx (ix3 r (0 : Fin 1) v)
      ((contrEquiv2 dot_S200x1x40x16_S40x16x32000_S200x1x32000_23_01_01_2_n_n 40 16 rfl rfl rfl).symm (g, j)) = ix3 g j v := by
    funext a; apply Fin.ext
    match a with
    | ⟨0, _⟩ => exact contrEquiv2_symm_val0 dot_S200x1x40x16_S40x16x32000_S200x1x32000_23_01_01_2_n_n 40 16 rfl rfl rfl (g, j)
    | ⟨1, _⟩ => exact contrEquiv2_symm_val1 dot_S200x1x40x16_S40x16x32000_S200x1x32000_23_01_01_2_n_n 40 16 rfl rfl rfl (g, j)
    | ⟨2, _⟩ => rfl
  rw [el, er]
  refine congrArg₂ (· * ·) ?_ ?_
  · rw [shapeCast_apply _ _ _ (ix3 r (0 : Fin 1) (⟨g.val * 16 + j.val, by omega⟩ : Fin 640))
        (by rw [Shape.rowMajor_val_three, Shape.rowMajor_val_four]; simp [ix3, ix4]; omega),
      shapeCast_apply _ _ _ (ix4 r (0 : Fin 1) (⟨g.val * 16 + j.val, by omega⟩ : Fin 640) (0 : Fin 1))
        (by rw [Shape.rowMajor_val_three, Shape.rowMajor_val_four]; simp [ix3, ix4])]
    have hs : extractStridedSlice S200x1x640x1 ![0, 0, 0, k.val] (shapeCast S200x1x640x8 x shapeCasts_S200x1x5120_S200x1x640x8) h
          (ix4 r (0 : Fin 1) (⟨g.val * 16 + j.val, by omega⟩ : Fin 640) (0 : Fin 1))
        = shapeCast S200x1x640x8 x shapeCasts_S200x1x5120_S200x1x640x8 (ix4 r (0 : Fin 1) (⟨g.val * 16 + j.val, by omega⟩ : Fin 640) k) := by
      unfold extractStridedSlice
      congr 1
      funext a; apply Fin.ext
      match a with
      | ⟨0, _⟩ => show 0 + r.val = r.val; omega
      | ⟨1, _⟩ => rfl
      | ⟨2, _⟩ => show 0 + (g.val * 16 + j.val) = g.val * 16 + j.val; omega
      | ⟨3, _⟩ => rfl
    rw [hs, shapeCast_apply _ _ _ (ix3 r (0 : Fin 1) (⟨(g.val * 16 + j.val) * 8 + k.val, by omega⟩ : Fin 5120))
      (by rw [Shape.rowMajor_val_three, Shape.rowMajor_val_four]; simp [ix3, ix4]; omega)]
  · have h1 : shapeCast S40x16x32000 (field (F := Ideal) (BitVec.ofNat 32 (4 * k.val)) W) shapeCasts_S640x32000_S40x16x32000 (ix3 g j v)
        = nib (W (ix2 (⟨g.val * 16 + j.val, by omega⟩ : Fin 640) v)) k.val := by
      rw [shapeCast_apply _ _ _ (ix2 (⟨g.val * 16 + j.val, by omega⟩ : Fin 640) v)
        (by rw [Shape.rowMajor_val_three, Shape.rowMajor_val_two]; simp [ix3, ix2]), field_at]
    have h2 : broadcastInDim S40x16x32000 ![0, 1, 2] bcast_S40x1x32000_S40x16x32000_0_1_2
        (broadcastInDim S40x1x32000 ![0, 2] bcast_S40x32000_S40x1x32000_0_2 sc) (ix3 g j v) = sc (ix2 g v) := by
      rw [broadcastInDim_apply _ _ _ _ (ix3 g (0 : Fin 1) v) (by intro a; fin_cases a <;> rfl),
        broadcastInDim_apply _ _ _ _ (ix2 g v) (by intro a; fin_cases a <;> rfl)]
    exact congrArg₂ (· * ·) h1 h2

/-- The reference's logits. -/
theorem logits_at (r : Fin 200) (v : Fin 32000) : refLogits x W sc (ix3 r (0 : Fin 1) v) = rowLogit x W sc r v.val := by
  have hr : rowLogit x W sc r v.val = logitSum (fun d => x (ix3 r (0 : Fin 1) d)) (fun a => W (ix2 a v)) (fun g => sc (ix2 g v)) := by
    unfold rowLogit
    rw [dif_pos v.isLt]
  rw [hr, logitSum_eq, Fin.sum_univ_eight, ← term_at x W sc 0 ![0, 0, 0, 0] slices_S200x1x640x8_S200x1x640x1_0_0_0_0 rfl r v,
    ← term_at x W sc 1 ![0, 0, 0, 1] slices_S200x1x640x8_S200x1x640x1_0_0_0_1 rfl r v,
    ← term_at x W sc 2 ![0, 0, 0, 2] slices_S200x1x640x8_S200x1x640x1_0_0_0_2 rfl r v,
    ← term_at x W sc 3 ![0, 0, 0, 3] slices_S200x1x640x8_S200x1x640x1_0_0_0_3 rfl r v,
    ← term_at x W sc 4 ![0, 0, 0, 4] slices_S200x1x640x8_S200x1x640x1_0_0_0_4 rfl r v,
    ← term_at x W sc 5 ![0, 0, 0, 5] slices_S200x1x640x8_S200x1x640x1_0_0_0_5 rfl r v,
    ← term_at x W sc 6 ![0, 0, 0, 6] slices_S200x1x640x8_S200x1x640x1_0_0_0_6 rfl r v,
    ← term_at x W sc 7 ![0, 0, 0, 7] slices_S200x1x640x8_S200x1x640x1_0_0_0_7 rfl r v]
  rfl

end Cert.ReferenceIdeal.RefValue
-- ==== Proof.Equation.lean ====
/-
  The kernel's four results are the reference's: both logits arrays hold the logit of each row and column, and a row's
  answer, greatest logit and margin are determined by the row (Greatest.lean `IsTop.unique`, `IsSecond.unique`).
-/
module

public import proofs.«01_k».proof.Proof.Combine
public import proofs.«01_k».proof.Proof.RefTop
public import proofs.«01_k».proof.Proof.RefValue

@[expose] public section

noncomputable section

open Idealize.ShloMosaic Idealize.ShloMosaic.TcCoe Idealize.ShloMosaic.ValueIdx Idealize.SL.Sem

namespace Cert.Equation

open Cert.KernelIdeal Cert.KernelIdeal.Gen Cert.KernelIdeal.Value Cert.KernelIdeal.State Cert.KernelIdeal.Blocks Cert.Greatest

variable (m : (ℓ : Loc nD τ sig) → Buf (Elt Ideal) ℓ) (c : Dev nD)

/-- The reference's logits of the kernel's arguments. -/
def refL : FVec Ideal Cert.ReferenceIdeal.S200x1x32000 .f32 :=
  Cert.ReferenceIdeal.Run.refLogits (F := Ideal) (m ((c.tc : Thread nD τ).loc main_arg0)) (m ((c.tc : Thread nD τ).loc main_arg1)) (m ((c.tc : Thread nD τ).loc main_arg2))

theorem refL_at (r : Fin 200) (v : Fin 32000) : refL m c (ix3 r (0 : Fin 1) v) = L m c r v.val :=
  Cert.ReferenceIdeal.RefValue.logits_at _ _ _ r v

/-- The logits. -/
theorem logits_eq : (G3 m c : Cert.ReferenceIdeal.S200x1x32000.Idx → EReal) = refL m c := by
  funext i
  have hi : i = ix3 (⟨(i 0).val, (i 0).isLt⟩ : Fin 200) (0 : Fin 1) (⟨(i 2).val, (i 2).isLt⟩ : Fin 32000) := by
    funext a; apply Fin.ext
    match a with
    | ⟨0, _⟩ => rfl
    | ⟨1, _⟩ => exact Nat.lt_one_iff.mp (i 1).isLt
    | ⟨2, _⟩ => rfl
  rw [hi, refL_at]
  exact Cert.KernelIdeal.State.logits_at m c _ _

/-- What the kernel's three row results are. -/
theorem kernel_row (r : Fin 200) : ∃ t s, IsTop 32000 (L m c r) t ∧ IsSecond 32000 (L m c r) t s
    ∧ G4 m c (ix2 (0 : Fin 1) r) = BitVec.ofNat 32 t ∧ G6 m c (ix2 (0 : Fin 1) r) = L m c r t
    ∧ G5 m c (ix2 (0 : Fin 1) r) = L m c r t - s := by
  have hc := Cert.KernelIdeal.Combine.combined (last m c) r (fun l => laneWalk (L m c r) l 250) (fun l => last_lane m c r l)
  obtain ⟨t, ht, htok, htop, hs⟩ := combined_spec (P := 250) (by decide) (by decide) (fun l _ => lane_walk (L m c r) l 250) hc
  refine ⟨t, _, ht, hs, ?_, ?_, ?_⟩
  · rw [G4_eq]; exact htok
  · rw [G6_eq]; exact htop
  · rw [G5_eq, Cert.KernelIdeal.Combine.margin_eq, htop]

/-- An index of a row result. -/
theorem idx_row (i : (⟨2, ![1, 200]⟩ : Shape).Idx) : i = ix2 (0 : Fin 1) (⟨(i 1).val, (i 1).isLt⟩ : Fin 200) := by
  funext a; apply Fin.ext
  match a with
  | ⟨0, _⟩ => exact Nat.lt_one_iff.mp (i 0).isLt
  | ⟨1, _⟩ => rfl

/-- A column laid out as a row. -/
theorem col_row {α : Type} (x : Cert.ReferenceIdeal.S200x1.Idx → α) (h : Cert.ReferenceIdeal.S200x1.ShapeCasts Cert.ReferenceIdeal.S1x200) (r : Fin 200) :
    shapeCast Cert.ReferenceIdeal.S1x200 x h (ix2 (0 : Fin 1) r) = x (ix2 r (0 : Fin 1)) :=
  shapeCast_apply _ _ _ _ (by rw [Shape.rowMajor_val_two, Shape.rowMajor_val_two]; simp [ix2])

/-- The answers. -/
theorem token_eq (h : Cert.ReferenceIdeal.S200x1.ShapeCasts Cert.ReferenceIdeal.S1x200) :
    (G4 m c : Cert.ReferenceIdeal.S1x200.Idx → BitVec 32) = shapeCast Cert.ReferenceIdeal.S1x200 (Cert.ReferenceIdeal.Run.argmaxOf (refL m c)) h := by
  funext i
  rw [idx_row i, col_row]
  obtain ⟨t, s, ht, -, htok, -, -⟩ := kernel_row m c ⟨(i 1).val, (i 1).isLt⟩
  obtain ⟨t', ht', htok'⟩ := Cert.ReferenceIdeal.Top.argmax_at (refL m c) ⟨(i 1).val, (i 1).isLt⟩ _ (refL_at m c _)
  rw [htok']
  obtain rfl := ht.unique ht'
  exact htok

/-- The greatest logits and the greatest of the rest, against the kernel's. -/
theorem row_eq (r : Fin 200) : G6 m c (ix2 (0 : Fin 1) r) = Cert.ReferenceIdeal.Run.fstOf (refL m c) (ix2 r (0 : Fin 1))
    ∧ G5 m c (ix2 (0 : Fin 1) r) = (Cert.ReferenceIdeal.Run.fstOf (refL m c) (ix2 r (0 : Fin 1)) : EReal) - Cert.ReferenceIdeal.Run.sndOf (refL m c) (ix2 r (0 : Fin 1)) := by
  obtain ⟨t, s, ht, hs, -, htop, hmar⟩ := kernel_row m c r
  obtain ⟨t', hlt, hg, hfst, hs'⟩ := Cert.ReferenceIdeal.Top.top_at (refL m c) r _ (refL_at m c r)
  have e1 : L m c r t = L m c r t' := le_antisymm (hg t ht.lt) (ht.le t' hlt)
  have e2 := IsSecond.unique ht.lt hlt ht.le hg hs hs'
  rw [hfst, ← e1, ← e2]
  exact ⟨htop, hmar⟩

/-- The greatest logits. -/
theorem top_eq (h : Cert.ReferenceIdeal.S200x1.ShapeCasts Cert.ReferenceIdeal.S1x200) :
    (G6 m c : Cert.ReferenceIdeal.S1x200.Idx → EReal) = shapeCast Cert.ReferenceIdeal.S1x200 (Cert.ReferenceIdeal.Run.fstOf (refL m c)) h := by
  funext i
  rw [idx_row i, col_row]
  exact (row_eq m c _).1

/-- The margins. -/
theorem margin_eq (h : Cert.ReferenceIdeal.S200x1.ShapeCasts Cert.ReferenceIdeal.S1x200) :
    (G5 m c : Cert.ReferenceIdeal.S1x200.Idx → EReal)
      = shapeCast Cert.ReferenceIdeal.S1x200 (subf (Cert.ReferenceIdeal.Run.fstOf (refL m c)) (Cert.ReferenceIdeal.Run.sndOf (refL m c))) h := by
  funext i
  rw [idx_row i, col_row]
  exact (row_eq m c _).2

end Cert.Equation
-- ==== Proof.lean ====
/-
  The certificate's proof: the three frames, the idealization and the value claim, assembled from the modules of
  proof/Proof/. The kernel's and its idealization's frames are the generated ones; the reference's is its run
  (RefRead.lean), which declares no semaphore; the value claim sets the kernel's run beside the reference's through
  Equation.lean.
-/
module

public import proofs.«01_k».proof.Proof.Equation
public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference's frame: its arguments are as at the start, and it declares no semaphore. -/
theorem frame_ref : Cert.quiescent_ReferenceIdeal := by
  intro m ρ _
  exact (θ_run Cert.ReferenceIdeal.defs _ _).mono (fun r h => ⟨fun c => (h c).2.2.2.2, Idealize.ShloMosaic.sem_eq_zero_of_no_sems (by decide) r.2⟩)
    (Cert.ReferenceIdeal.Run.run_main (F := Ideal) m ρ)

/-- The kernel's four results at the ideal values are the reference's. -/
theorem algebraic : Cert.algebraic_KernelIdeal_ReferenceIdeal := by
  intro m ρ m' ρ' _ hagree
  refine ⟨fun c => Cert.KernelIdeal.Value.G4 m c, fun c => Cert.KernelIdeal.Value.G5 m c, fun c => Cert.KernelIdeal.Value.G6 m c,
    fun c => Cert.KernelIdeal.Value.G3 m c, ?_, ?_⟩
  · exact (θ_run Cert.KernelIdeal.defs _ _).mono
      (fun r h c => ⟨(h c).2.1, (h c).2.2.1, (h c).2.2.2.1, (h c).1, (h c).2.2.2.2⟩) (Cert.KernelIdeal.Value.run (F := Ideal) m ρ)
  · refine (θ_run Cert.ReferenceIdeal.defs _ _).mono (fun r h c => ?_) (Cert.ReferenceIdeal.Run.run_main (F := Ideal) m' ρ')
    obtain ⟨h0, h1, h2, h3, h4⟩ := h c
    have e : Cert.ReferenceIdeal.Run.refLogits (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = Cert.Equation.refL m c := by
      unfold Cert.Equation.refL
      rw [(hagree c).1, (hagree c).2.1, (hagree c).2.2]
    rw [e] at h0 h1 h2 h3
    exact ⟨h0.trans (Cert.Equation.token_eq m c _).symm, h1.trans (Cert.Equation.margin_eq m c _).symm,
      h2.trans (Cert.Equation.top_eq m c _).symm, h3.trans (Cert.Equation.logits_eq m c).symm, h4⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, algebraic⟩

end Cert.Proof

end
